-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts) (hPre_finite_queries : Cert.Pre_finite_queries.Facts),
    quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ algebraic_KernelIdeal_ReferenceIdeal_pre_finite_queries (hKernelIdeal := hKernelIdeal) (hReferenceIdeal := hReferenceIdeal) (hPre_finite_queries := hPre_finite_queries)
-- ==== Pre_finite_queries.lean ====
abbrev S2048 : Shape := ⟨1, ![2048]⟩
abbrev S1 : Shape := ⟨1, ![1]⟩
abbrev S4096x2048 : Shape := ⟨2, ![4096, 2048]⟩
abbrev S4096x1x1024 : Shape := ⟨3, ![4096, 1, 1024]⟩
abbrev S1024 : Shape := ⟨1, ![1024]⟩
abbrev S3072x4096 : Shape := ⟨2, ![3072, 4096]⟩
abbrev S3072x1024 : Shape := ⟨2, ![3072, 1024]⟩
abbrev S3072 : Shape := ⟨1, ![3072]⟩
abbrev S1x3072 : Shape := ⟨2, ![1, 3072]⟩
abbrev S_ : Shape := ⟨0, ![]⟩

class Facts : Prop where
  bcast_S_S2048 : S_.BroadcastsInDim S2048 (![] : Fin 0 → Fin S2048.rank)
  bcast_S_S4096x2048 : S_.BroadcastsInDim S4096x2048 (![] : Fin 0 → Fin S4096x2048.rank)

variable [Facts]

def fn {F : FTy → Type} [FloatOps F] (main_arg0 : FVec F S2048 .f32) (main_arg1 : FVec F S1 .f32) (main_arg2 : FVec F S4096x2048 .f32) (main_arg3 : FVec F S4096x1x1024 .f32) (main_arg4 : FVec F S1024 .f32) (main_arg5 : FVec F S3072x4096 .f32) (main_arg6 : FVec F S3072x1024 .f32) (main_arg7 : FVec F S3072 .f32) (main_arg8 : FVec F S3072 .f32) (main_arg9 : FVec F S1x3072 .f32) (main_arg10 : FVec F S1 .f32) : IVec S2048 1 × IVec S4096x2048 1 :=
  let main_v0 : FVec F S2048 .f32 := Host.absf main_arg0
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S4096x2048 .f32 := Host.absf main_arg2
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== KernelIdeal.lean ====
abbrev S2048 : Shape := ⟨1, ![2048]⟩
abbrev S1 : Shape := ⟨1, ![1]⟩
abbrev S4096x2048 : Shape := ⟨2, ![4096, 2048]⟩
abbrev S4096x1x1024 : Shape := ⟨3, ![4096, 1, 1024]⟩
abbrev S1024 : Shape := ⟨1, ![1024]⟩
abbrev S3072x4096 : Shape := ⟨2, ![3072, 4096]⟩
abbrev S3072x1024 : Shape := ⟨2, ![3072, 1024]⟩
abbrev S3072 : Shape := ⟨1, ![3072]⟩
abbrev S1x3072 : Shape := ⟨2, ![1, 3072]⟩
abbrev S1x2048 : Shape := ⟨2, ![1, 2048]⟩
abbrev S1x1x1024 : Shape := ⟨3, ![1, 1, 1024]⟩
abbrev S1x1024 : Shape := ⟨2, ![1, 1024]⟩
abbrev S1x1 : Shape := ⟨2, ![1, 1]⟩
abbrev S3x1024 : Shape := ⟨2, ![3, 1024]⟩
abbrev S512x2048 : Shape := ⟨2, ![512, 2048]⟩
abbrev S512x4096 : Shape := ⟨2, ![512, 4096]⟩
abbrev S512x1024 : Shape := ⟨2, ![512, 1024]⟩
abbrev S8x512 : Shape := ⟨2, ![8, 512]⟩
abbrev S1x64 : Shape := ⟨2, ![1, 64]⟩
abbrev S64x1024 : Shape := ⟨2, ![64, 1024]⟩
abbrev S_ : Shape := ⟨0, ![]⟩
abbrev S1x512 : Shape := ⟨2, ![1, 512]⟩
abbrev S1x8x512 : Shape := ⟨3, ![1, 8, 512]⟩
abbrev S1x1x1 : Shape := ⟨3, ![1, 1, 1]⟩
abbrev S1x1x64 : Shape := ⟨3, ![1, 1, 64]⟩
abbrev S1x1x2048 : Shape := ⟨3, ![1, 1, 2048]⟩
abbrev S1x4096 : Shape := ⟨2, ![1, 4096]⟩

abbrev nBuf : Space → Nat
  | .hbm => 23
  | .vmem => 17
  | .smem => 3
  | _ => 0

abbrev bufTy : (tb : Table) → Fin (tcTables nBuf tb) → BufTy
  | .hbm, ⟨0, _⟩ => ⟨S2048, .f32⟩
  | .hbm, ⟨1, _⟩ => ⟨S1, .f32⟩
  | .hbm, ⟨2, _⟩ => ⟨S4096x2048, .f32⟩
  | .hbm, ⟨3, _⟩ => ⟨S4096x1x1024, .f32⟩
  | .hbm, ⟨4, _⟩ => ⟨S1024, .f32⟩
  | .hbm, ⟨5, _⟩ => ⟨S3072x4096, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S1x3072, .f32⟩
  | .hbm, ⟨10, _⟩ => ⟨S1, .f32⟩
  | .hbm, ⟨11, _⟩ => ⟨S1x2048, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1, .f32⟩
  | .hbm, ⟨16, _⟩ => ⟨S3x1024, .f32⟩
  | .hbm, ⟨17, _⟩ => ⟨S3x1024, .f32⟩
  | .hbm, ⟨18, _⟩ => ⟨S1x1, .f32⟩
  | .hbm, ⟨19, _⟩ => ⟨S1x1, .f32⟩
  | .hbm, ⟨20, _⟩ => ⟨S1x1024, .f32⟩
  | .hbm, ⟨21, _⟩ => ⟨S1, .f32⟩
  | .hbm, ⟨22, _⟩ => ⟨S1x1x1024, .f32⟩
  | .local _ .vmem, ⟨0, _⟩ => ⟨S1x2048, .f32⟩
  | .local _ .vmem, ⟨1, _⟩ => ⟨S1x1024, .f32⟩
  | .local _ .vmem, ⟨2, _⟩ => ⟨S512x2048, .f32⟩
  | .local _ .vmem, ⟨3, _⟩ => ⟨S512x2048, .f32⟩
  | .local _ .vmem, ⟨4, _⟩ => ⟨S512x4096, .f32⟩
  | .local _ .vmem, ⟨5, _⟩ => ⟨S512x4096, .f32⟩
  | .local _ .vmem, ⟨6, _⟩ => ⟨S512x1024, .f32⟩
  | .local _ .vmem, ⟨7, _⟩ => ⟨S512x1024, .f32⟩
  | .local _ .vmem, ⟨8, _⟩ => ⟨S3x1024, .f32⟩
  | .local _ .vmem, ⟨9, _⟩ => ⟨S3x1024, .f32⟩
  | .local _ .vmem, ⟨10, _⟩ => ⟨S1x3072, .f32⟩
  | .local _ .vmem, ⟨11, _⟩ => ⟨S1x1024, .f32⟩
  | .local _ .vmem, ⟨12, _⟩ => ⟨S8x512, .f32⟩
  | .local _ .vmem, ⟨13, _⟩ => ⟨S1x64, .f32⟩
  | .local _ .vmem, ⟨14, _⟩ => ⟨S64x1024, .f32⟩
  | .local _ .vmem, ⟨15, _⟩ => ⟨S1x1024, .f32⟩
  | .local _ .vmem, ⟨16, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_stg9_0 : Ref sig .tc := ⟨.smem, 1, rfl⟩
abbrev cc0_stg10_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c8_i32 : BitVec 32 := 8#32
  let v4 : BitVec 1 := Scalar.cmpi .slt arg0 c8_i32
  let v5 : BitVec 32 := Scalar.extui v4
  let c0_i32 : BitVec 32 := 0#32
  let v6 : BitVec 1 := Scalar.cmpi .ne v5 c0_i32
  v6

def k0_off1 (i : grid0.Coords) : Fin 2 → Nat :=
  let arg0 : BitVec 32 := BitVec.ofNat 32 (i 0).val
  let v20 : Index := Scalar.indexCast arg0
  let c0_11 : Index := 0#32
  ![v20.toNat, 0]
def k0_cond2 (i : grid0.Coords) : BitVec 1 :=
  let arg0 : BitVec 32 := BitVec.ofNat 32 (i 0).val
  let c8_i32_3 : BitVec 32 := 8#32
  let v7 : BitVec 1 := Scalar.cmpi .sge arg0 c8_i32_3
  let c12_i32 : BitVec 32 := 12#32
  let v8 : BitVec 1 := Scalar.cmpi .slt arg0 c12_i32
  let v9 : BitVec 1 := Scalar.andi v7 v8
  let v10 : BitVec 32 := Scalar.extui v9
  let c0_i32_4 : BitVec 32 := 0#32
  let v11 : BitVec 1 := Scalar.cmpi .ne v10 c0_i32_4
  v11

@[reducible] def k0_t1_loop : Scf.Loop 32 :=
  let c0_i32_14 : BitVec 32 := 0#32
  let c16_i32_15 : BitVec 32 := 16#32
  let v28 : BitVec 32 := Scalar.addi c0_i32_14 c16_i32_15
  let c1_i32 : BitVec 32 := 1#32
  ⟨c0_i32_14, v28, c1_i32⟩
def k0_off2 (i : grid0.Coords) (k0_t1 : Fin k0_t1_loop.trips) : Fin 2 → Nat :=
  let arg0 : BitVec 32 := BitVec.ofNat 32 (i 0).val
  let c8_i32_9 : BitVec 32 := 8#32
  let v24 : BitVec 32 := Scalar.subi arg0 c8_i32_9
  let c16_i32 : BitVec 32 := 16#32
  let v25 : BitVec 32 := Scalar.muli v24 c16_i32
  let c0_i32_14 : BitVec 32 := 0#32
  let c1_i32 : BitVec 32 := 1#32
  let arg20 : BitVec 32 := Scf.iv c0_i32_14 c1_i32 k0_t1
  let v48 : BitVec 32 := Scalar.addi v25 arg20
  let c0_i32_24 : BitVec 32 := 0#32
  ![v48.toNat, 0]
def k0_off3 (v47 : BitVec 32) : Fin 3 → Nat :=
  let c0_i32_23 : BitVec 32 := 0#32
  let c0_i32_25 : BitVec 32 := 0#32
  ![v47.toNat, 0, 0]

def k0_chk1 (i : grid0.Coords) (v47 : BitVec 32) : Prop :=
  (∀ (k0_h2 : k0_cond2 i = 1#1), ∀ a, (k0_off3 v47) a + S1x1x1024.size a ≤ S4096x1x1024.size a)
theorem k0_off3_inb : ∀ (i : grid0.Coords) (v47 : BitVec 32) (k0_hw1 : k0_chk1 i v47), ∀ (k0_h2 : k0_cond2 i = 1#1), ∀ a, (k0_off3 v47) a + S1x1x1024.size a ≤ S4096x1x1024.size a := fun i v47 k0_hw1 k0_h2 => k0_hw1 k0_h2

def k0_cond3 (i : grid0.Coords) : BitVec 1 :=
  let arg0 : BitVec 32 := BitVec.ofNat 32 (i 0).val
  let c12_i32_5 : BitVec 32 := 12#32
  let v12 : BitVec 1 := Scalar.cmpi .eq arg0 c12_i32_5
  let v13 : BitVec 32 := Scalar.extui v12
  let c0_i32_6 : BitVec 32 := 0#32
  let v14 : BitVec 1 := Scalar.cmpi .ne v13 c0_i32_6
  v14

@[reducible] def k0_t2_loop : Scf.Loop 32 :=
  let c0_i32_9 : BitVec 32 := 0#32
  let c64_i32 : BitVec 32 := 64#32
  let v18 : BitVec 32 := Scalar.addi c0_i32_9 c64_i32
  let c1_i32 : BitVec 32 := 1#32
  ⟨c0_i32_9, v18, c1_i32⟩
def k0_off4 (k0_t2 : Fin k0_t2_loop.trips) : Fin 2 → Nat :=
  let c0_i32_9 : BitVec 32 := 0#32
  let c1_i32 : BitVec 32 := 1#32
  let arg20 : BitVec 32 := Scf.iv c0_i32_9 c1_i32 k0_t2
  let c0_i32_26 : BitVec 32 := 0#32
  ![arg20.toNat, 0]
def k0_cond4 (i : grid0.Coords) : BitVec 1 :=
  let arg0 : BitVec 32 := BitVec.ofNat 32 (i 0).val
  let c8_i32_7 : BitVec 32 := 8#32
  let v15 : BitVec 1 := Scalar.cmpi .sge arg0 c8_i32_7
  let v16 : BitVec 32 := Scalar.extui v15
  let c0_i32_8 : BitVec 32 := 0#32
  let v17 : BitVec 1 := Scalar.cmpi .ne v16 c0_i32_8
  v17

def k0_cond5 (i : grid0.Coords) : BitVec 1 :=
  let arg0 : BitVec 32 := BitVec.ofNat 32 (i 0).val
  let c8_i32_9 : BitVec 32 := 8#32
  let v18 : BitVec 32 := Scalar.subi arg0 c8_i32_9
  let c2_i32_22 : BitVec 32 := 2#32
  let v34 : BitVec 1 := Scalar.cmpi .slt v18 c2_i32_22
  let v35 : BitVec 32 := Scalar.extui v34
  let c0_i32_23 : BitVec 32 := 0#32
  let v36 : BitVec 1 := Scalar.cmpi .ne v35 c0_i32_23
  v36

def k0_off5 (i : grid0.Coords) : Fin 2 → Nat :=
  let c0_28 : Index := 0#32
  let arg0 : BitVec 32 := BitVec.ofNat 32 (i 0).val
  let c8_i32_9 : BitVec 32 := 8#32
  let v18 : BitVec 32 := Scalar.subi arg0 c8_i32_9
  let c2_i32 : BitVec 32 := 2#32
  let v19 : BitVec 32 := Scalar.remsi v18 c2_i32
  let c512_i32 : BitVec 32 := 512#32
  let v20 : BitVec 32 := Scalar.muli v19 c512_i32
  let v45 : Index := Scalar.indexCast v20
  ![0, v45.toNat]
def k0_off6 (i : grid0.Coords) : Fin 2 → Nat :=
  let c0_30 : Index := 0#32
  let arg0 : BitVec 32 := BitVec.ofNat 32 (i 0).val
  let c8_i32_9 : BitVec 32 := 8#32
  let v18 : BitVec 32 := Scalar.subi arg0 c8_i32_9
  let c2_i32 : BitVec 32 := 2#32
  let v19 : BitVec 32 := Scalar.remsi v18 c2_i32
  let c512_i32 : BitVec 32 := 512#32
  let v20 : BitVec 32 := Scalar.muli v19 c512_i32
  let v55 : Index := Scalar.indexCast v20
  ![0, v55.toNat]
def k0_cond6 (i : grid0.Coords) : BitVec 1 :=
  let arg0 : BitVec 32 := BitVec.ofNat 32 (i 0).val
  let c8_i32_9 : BitVec 32 := 8#32
  let v18 : BitVec 32 := Scalar.subi arg0 c8_i32_9
  let c2_i32_24 : BitVec 32 := 2#32
  let v37 : BitVec 1 := Scalar.cmpi .sge v18 c2_i32_24
  let c4_i32 : BitVec 32 := 4#32
  let v38 : BitVec 1 := Scalar.cmpi .slt v18 c4_i32
  let v39 : BitVec 1 := Scalar.andi v37 v38
  let v40 : BitVec 32 := Scalar.extui v39
  let c0_i32_25 : BitVec 32 := 0#32
  let v41 : BitVec 1 := Scalar.cmpi .ne v40 c0_i32_25
  v41

def k0_off7 (i : grid0.Coords) : Fin 2 → Nat :=
  let c1 : Index := 1#32
  let arg0 : BitVec 32 := BitVec.ofNat 32 (i 0).val
  let c8_i32_9 : BitVec 32 := 8#32
  let v18 : BitVec 32 := Scalar.subi arg0 c8_i32_9
  let c2_i32 : BitVec 32 := 2#32
  let v19 : BitVec 32 := Scalar.remsi v18 c2_i32
  let c512_i32 : BitVec 32 := 512#32
  let v20 : BitVec 32 := Scalar.muli v19 c512_i32
  let v45 : Index := Scalar.indexCast v20
  ![1, v45.toNat]
def k0_off8 (i : grid0.Coords) : Fin 2 → Nat :=
  let c0_29 : Index := 0#32
  let arg0 : BitVec 32 := BitVec.ofNat 32 (i 0).val
  let c8_i32_9 : BitVec 32 := 8#32
  let v18 : BitVec 32 := Scalar.subi arg0 c8_i32_9
  let c2_i32 : BitVec 32 := 2#32
  let v19 : BitVec 32 := Scalar.remsi v18 c2_i32
  let c512_i32 : BitVec 32 := 512#32
  let v20 : BitVec 32 := Scalar.muli v19 c512_i32
  let v55 : Index := Scalar.indexCast v20
  ![0, v55.toNat]
def k0_cond7 (i : grid0.Coords) : BitVec 1 :=
  let arg0 : BitVec 32 := BitVec.ofNat 32 (i 0).val
  let c8_i32_9 : BitVec 32 := 8#32
  let v18 : BitVec 32 := Scalar.subi arg0 c8_i32_9
  let c4_i32_26 : BitVec 32 := 4#32
  let v42 : BitVec 1 := Scalar.cmpi .sge v18 c4_i32_26
  let v43 : BitVec 32 := Scalar.extui v42
  let c0_i32_27 : BitVec 32 := 0#32
  let v44 : BitVec 1 := Scalar.cmpi .ne v43 c0_i32_27
  v44

def k0_off9 (i : grid0.Coords) : Fin 2 → Nat :=
  let c2 : Index := 2#32
  let arg0 : BitVec 32 := BitVec.ofNat 32 (i 0).val
  let c8_i32_9 : BitVec 32 := 8#32
  let v18 : BitVec 32 := Scalar.subi arg0 c8_i32_9
  let c2_i32 : BitVec 32 := 2#32
  let v19 : BitVec 32 := Scalar.remsi v18 c2_i32
  let c512_i32 : BitVec 32 := 512#32
  let v20 : BitVec 32 := Scalar.muli v19 c512_i32
  let v45 : Index := Scalar.indexCast v20
  ![2, v45.toNat]
def k0_off10 (i : grid0.Coords) : Fin 2 → Nat :=
  let c0_29 : Index := 0#32
  let arg0 : BitVec 32 := BitVec.ofNat 32 (i 0).val
  let c8_i32_9 : BitVec 32 := 8#32
  let v18 : BitVec 32 := Scalar.subi arg0 c8_i32_9
  let c2_i32 : BitVec 32 := 2#32
  let v19 : BitVec 32 := Scalar.remsi v18 c2_i32
  let c512_i32 : BitVec 32 := 512#32
  let v20 : BitVec 32 := Scalar.muli v19 c512_i32
  let v53 : Index := Scalar.indexCast v20
  ![0, v53.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048 : Shape := ⟨1, ![2048]⟩
abbrev S1 : Shape := ⟨1, ![1]⟩
abbrev S4096x2048 : Shape := ⟨2, ![4096, 2048]⟩
abbrev S4096x1x1024 : Shape := ⟨3, ![4096, 1, 1024]⟩
abbrev S1024 : Shape := ⟨1, ![1024]⟩
abbrev S3072x4096 : Shape := ⟨2, ![3072, 4096]⟩
abbrev S3072x1024 : Shape := ⟨2, ![3072, 1024]⟩
abbrev S3072 : Shape := ⟨1, ![3072]⟩
abbrev S1x3072 : Shape := ⟨2, ![1, 3072]⟩
abbrev S1x1x1024 : Shape := ⟨3, ![1, 1, 1024]⟩
abbrev S2048x1 : Shape := ⟨2, ![2048, 1]⟩
abbrev S4096x1 : Shape := ⟨2, ![4096, 1]⟩
abbrev S4096 : Shape := ⟨1, ![4096]⟩
abbrev S64 : Shape := ⟨1, ![64]⟩
abbrev S1x64 : Shape := ⟨2, ![1, 64]⟩
abbrev S_ : Shape := ⟨0, ![]⟩
abbrev S1x1 : Shape := ⟨2, ![1, 1]⟩
abbrev S4096x1024 : Shape := ⟨2, ![4096, 1024]⟩
abbrev S64x1 : Shape := ⟨2, ![64, 1]⟩
abbrev S64x1024 : Shape := ⟨2, ![64, 1024]⟩
abbrev S1x1024 : Shape := ⟨2, ![1, 1024]⟩
abbrev S3072x1 : Shape := ⟨2, ![3072, 1]⟩

abbrev nBuf : Space → Nat
  | .hbm => 117
  | .vmem => 0
  | .smem => 0
  | _ => 0

abbrev bufTy : (tb : Table) → Fin (tcTables nBuf tb) → BufTy
  | .hbm, ⟨0, _⟩ => ⟨S2048, .f32⟩
  | .hbm, ⟨1, _⟩ => ⟨S1, .f32⟩
  | .hbm, ⟨2, _⟩ => ⟨S4096x2048, .f32⟩
  | .hbm, ⟨3, _⟩ => ⟨S4096x1x1024, .f32⟩
  | .hbm, ⟨4, _⟩ => ⟨S1024, .f32⟩
  | .hbm, ⟨5, _⟩ => ⟨S3072x4096, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S1x3072, .f32⟩
  | .hbm, ⟨10, _⟩ => ⟨S1, .f32⟩
  | .hbm, ⟨11, _⟩ => ⟨S1x1x1024, .f32⟩
  | .hbm, ⟨12, _⟩ => ⟨S1024, .f32⟩
  | .hbm, ⟨13, _⟩ => ⟨S2048x1, .f32⟩
  | .hbm, ⟨14, _⟩ => ⟨S4096x1, .f32⟩
  | .hbm, ⟨15, _⟩ => ⟨S4096, .f32⟩
  | .hbm, ⟨16, _⟩ => ⟨S64, .f32⟩
  | .hbm, ⟨17, _⟩ => ⟨S64, .i32⟩
  | .hbm, ⟨18, _⟩ => ⟨S1x64, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S_, .f32⟩
  | .hbm, ⟨29, _⟩ => ⟨S1, .f32⟩
  | .hbm, ⟨30, _⟩ => ⟨S1x1, .f32⟩
  | .hbm, ⟨31, _⟩ => ⟨S1x64, .f32⟩
  | .hbm, ⟨32, _⟩ => ⟨S1x64, .f32⟩
  | .hbm, ⟨33, _⟩ => ⟨S4096x1024, .f32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S1, .i32⟩
  | .hbm, ⟨43, _⟩ => ⟨S_, .i32⟩
  | .hbm, ⟨44, _⟩ => ⟨S64x1, .i32⟩
  | .hbm, ⟨45, _⟩ => ⟨S64x1, .i1⟩
  | .hbm, ⟨46, _⟩ => ⟨S1x1, .i32⟩
  | .hbm, ⟨47, _⟩ => ⟨S64x1, .i32⟩
  | .hbm, ⟨48, _⟩ => ⟨S64x1, .i1⟩
  | .hbm, ⟨49, _⟩ => ⟨S64x1, .i1⟩
  | .hbm, ⟨50, _⟩ => ⟨S_, .i1⟩
  | .hbm, ⟨51, _⟩ => ⟨S64, .i1⟩
  | .hbm, ⟨52, _⟩ => ⟨S64x1024, .f32⟩
  | .hbm, ⟨53, _⟩ => ⟨S64x1024, .i1⟩
  | .hbm, ⟨54, _⟩ => ⟨S_, .f32⟩
  | .hbm, ⟨55, _⟩ => ⟨S64x1024, .f32⟩
  | .hbm, ⟨56, _⟩ => ⟨S64x1024, .f32⟩
  | .hbm, ⟨57, _⟩ => ⟨S1x1024, .f32⟩
  | .hbm, ⟨58, _⟩ => ⟨S1024, .f32⟩
  | .hbm, ⟨59, _⟩ => ⟨S3072, .f32⟩
  | .hbm, ⟨60, _⟩ => ⟨S1x3072, .f32⟩
  | .hbm, ⟨61, _⟩ => ⟨S3072x1, .f32⟩
  | .hbm, ⟨62, _⟩ => ⟨S1x1, .f32⟩
  | .hbm, ⟨63, _⟩ => ⟨S1x1, .f32⟩
  | .hbm, ⟨64, _⟩ => ⟨S1x1, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .i1⟩
  | .hbm, ⟨69, _⟩ => ⟨S1, .f32⟩
  | .hbm, ⟨70, _⟩ => ⟨S2048, .f32⟩
  | .hbm, ⟨71, _⟩ => ⟨S2048, .f32⟩
  | .hbm, ⟨72, _⟩ => ⟨S_, .f32⟩
  | .hbm, ⟨73, _⟩ => ⟨S1, .f32⟩
  | .hbm, ⟨74, _⟩ => ⟨S1, .i1⟩
  | .hbm, ⟨75, _⟩ => ⟨S1, .f32⟩
  | .hbm, ⟨76, _⟩ => ⟨S2048, .f32⟩
  | .hbm, ⟨77, _⟩ => ⟨S2048, .f32⟩
  | .hbm, ⟨78, _⟩ => ⟨S4096, .f32⟩
  | .hbm, ⟨79, _⟩ => ⟨S3072, .f32⟩
  | .hbm, ⟨80, _⟩ => ⟨S3072, .f32⟩
  | .hbm, ⟨81, _⟩ => ⟨S3072, .f32⟩
  | .hbm, ⟨82, _⟩ => ⟨S3072, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S1024, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S1024, .f32⟩
  | .hbm, ⟨116, _⟩ => ⟨S1x1x1024, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_values : Ref sig .tc := ⟨.hbm, 16, rfl⟩
abbrev main_indices : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_3 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_4 : Ref sig .tc := ⟨.hbm, 92, rfl⟩
abbrev main_v52 : Ref sig .tc := ⟨.hbm, 93, rfl⟩
abbrev main_v53 : Ref sig .tc := ⟨.hbm, 94, rfl⟩
abbrev main_cst_5 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_6 : Ref sig .tc := ⟨.hbm, 101, rfl⟩
abbrev main_v59 : Ref sig .tc := ⟨.hbm, 102, rfl⟩
abbrev main_v60 : Ref sig .tc := ⟨.hbm, 103, rfl⟩
abbrev main_cst_7 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_8 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩

abbrev nD : Nat := 1
abbrev τ : Topo := Topo.v7x

variable {F : FTy → Type} [FloatOps F]
-- ==== Proof.Around.lean ====
/-
  The launch: @main's host lines, the kernel's region and the two host lines after it, for proof data that relate what the
  region leaves in each array, of a kernel that reads the hidden states by transfers of its own. It tells every array's
  contents, every other buffer as the last lines leave it, and that every semaphore reads zero.
-/
module

public import proofs.«01_k».proof.Proof.Gen.KernelIdeal.Frame
public import Idealize.ShloMosaic.Lib.Pipeline.FrameSuffixR

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The semaphore of the row transfers. -/
abbrev osem0 : Fin 1 → SemLoc sig := fun _ => SemLoc.dma 15

theorem ownSemFacts0 : OwnSemFacts spec0 osem0 := by decide

/-- The buffer the transfers read. -/
abbrev H0 : Finset (Ref sig .tc) := {main_arg3}

theorem H0_sub : H0 ⊆ restRefsP sig Prefetch.none spec0 := by
  intro b hb
  rw [Finset.mem_singleton] at hb
  subst hb
  exact Finset.mem_sdiff.mpr ⟨mem_restRefs_of main_arg3 (by decide) (by decide), fun h => (Finset.mem_image.mp h).elim fun k _ => k.elim0⟩

/-- The programs around the region, at the algebra of a kernel with transfers. -/
theorem main_around : HMainK (Ix := Unit) (Name := ℕ) (U := UD sig nD τ) (Lvl := ℕ) cfgs 0 defs₀ Variants.none m (main (F := F)) (V m)
      (fun _ => chain ([hostOps1].map StableHlo.seq)) :=
  hmain_around cfgs 0 defs₀ Variants.none m main [hostOps0] [hostOps1] (by simp only [List.Forall]; exact hostOps0_sub)
    (by simp only [List.Forall]; exact hostOps0_fresh) main_chain

/-- Every buffer as the last host lines leave it, from the arrays' contents `A`. -/
def tailV (c : Dev nD) (A : (w : Fin cfg0.W) → Buf (Elt F) ((spec0 w).arr.view.loc (c.tc : Thread nD τ))) (b : Ref sig .tc) :
    Buf (Elt F) ((c.tc : Thread nD τ).loc b) :=
  StableHlo.after ([hostOps1] : List (List (HloOp τ sig (Elt F)))).flatten (withArrays spec0 c (V0 m c) A) (Proc.devRef .tc b)

/-- What a run ends in. -/
def Ends (rdat : (c : Dev nD) → RDat τ (Elt F) Unit ℕ (UD sig nD τ) ℕ cfg0 c) (r : PUnit × MemSt nD τ sig (Elt F)) : Prop :=
  ∀ c : Dev nD, (∀ w, (rdat c).ArrAt w cfg0.N (r.2.mem ((spec0 w).arr.view.loc (c.tc : Thread nD τ))))
    ∧ ∃ A, (∀ w, (rdat c).ArrAt w cfg0.N (A w)) ∧ ∀ b ∈ restRefsP sig Prefetch.none spec0, r.2.mem ((c.tc : Thread nD τ).loc b) = tailV m c A b

abbrev pcs0 : Fin 1 → PCfg sig Λ₀ (Elt F) := fun q => (cfgs q).toPCfg (Val := Elt F)
abbrev adm0 : (q : Fin 1) → (pcs0 (F := F) q).Adm := fun q => (cfgs q).toPCfg_adm

theorem kit0 : PLaunchFacts₀ (nD := nD) (τ := τ) (pcs0 (F := F)) 0 := (launch0.toP (Val := Elt F)).to₀

set_option backward.isDefEq.respectTransparency.types false in
theorem run_around (rdat : (c : Dev nD) → RDat τ (Elt F) Unit ℕ (UD sig nD τ) ℕ cfg0 c)
    (hbody : ∀ c, (rdat c).BodyObligation defs₀ Variants.none () Set.univ)
    (hq : ∀ c w, (spec0 w).isOut = false → (rdat c).q w = shareOf spec0 w) (howed : ∀ c t, (rdat c).owed t = 0)
    (hA : ∀ c w, (rdat c).A w = V m c (arrRef spec0 w))
    (hin : ∀ c, ΦD osem0 spec0 H0 (V m) c ⊢ (rdat c).Φ 0)
    (hout : ∀ c, (rdat c).Φ (Fin.last cfg0.N) ⊢ ΦD osem0 spec0 H0 (V m) c) :
    θ_run defs (onTc (τ := τ) (main (F := F))) (s₀ m ρ) (fun r => Ends m rdat r ∧ r.2.sem = fun _ => 0) := by
  classical
  have harrAt : ∀ c, ((RDat.familyOf (pcs0 (F := F)) adm0 0 rdat 0 c).arraysAt cfg0.N : sProp 𝕄)
      ⊢ iprop(∃ A, ⌜∀ w, (rdat c).ArrAt w cfg0.N (A w)⌝ ∗ (rdat c).arrays A) := fun c => by
    rw [RDat.familyOf_self]; unfold RDat.arraysAt
    iintro Ha
    ihave Ha' := (BI.bigSep_exists_pi Finset.univ (fun w F' => iprop(⌜(rdat c).ArrAt w cfg0.N F'⌝
        ∗ ((cfg0).win w).arr.view.loc (c.tc : Thread nD τ) ↦[((cfg0).win w).arr.view.set]{(rdat c).share w} F'))) $$ Ha
    icases Ha' with ⟨%A, Ha⟩
    ihave Ha2 := (BI.bigSep_pure_sep Finset.univ (fun w => (rdat c).ArrAt w cfg0.N (A w))
        (fun w => ((cfg0).win w).arr.view.loc (c.tc : Thread nD τ) ↦[((cfg0).win w).arr.view.set]{(rdat c).share w} A w)) $$ Ha
    icases Ha2 with ⟨%hA', Ha⟩
    iexists A; isplitr; · ipureintro; exact fun w => hA' w (Finset.mem_univ w)
    unfold RDat.arrays
    iexact Ha
  have harrAt' : ∀ c A, (∀ w, (rdat c).ArrAt w cfg0.N (A w)) →
      ((rdat c).arrays A : sProp 𝕄) ⊢ (RDat.familyOf (pcs0 (F := F)) adm0 0 rdat 0 c).arraysAt cfg0.N := fun c A hA' => by
    rw [RDat.familyOf_self]; unfold RDat.arraysAt RDat.arrays
    refine BI.bigSep_mono fun w _ => ?_
    show (((cfg0).win w).arr.view.loc (c.tc : Thread nD τ) ↦[((cfg0).win w).arr.view.set]{(rdat c).share w} A w : sProp 𝕄)
      ⊢ iprop(∃ F', ⌜(rdat c).ArrAt w cfg0.N F'⌝ ∗ ((cfg0).win w).arr.view.loc (c.tc : Thread nD τ) ↦[((cfg0).win w).arr.view.set]{(rdat c).share w} F')
    iintro H; iexists (A w); isplitr; · ipureintro; exact hA' w
    iexact H
  exact RDat.θ_run_region_pf_tail'_quiescent (pcs0 (F := F)) adm0 (RDat.familyOf (pcs0 (F := F)) adm0 0 rdat) () ((kit0 (F := F)).cellOf_inj adm0) 0 (kit0 (F := F)).win ownSemFacts0 (kit0 (F := F)).pre embL
    defs₀ Variants.none m ρ main
    (fun _ => chain (([hostOps1] : List (List (HloOp τ sig (Elt F)))).map StableHlo.seq)) (fun c => by rw [RDat.familyOf_self]; exact hbody c)
    (kit0 (F := F)).block_pos (kit0 (F := F)).arr_whole (kit0 (F := F)).stage_whole (fun c t => by rw [RDat.familyOf_self]; exact howed c t)
    (G := fun _ => iprop(emp)) (u₀ := (initOf (cells (pin (pcs0 (F := F)) adm0) ((kit0 (F := F)).cellOf_inj adm0)) (launchToks (pin (pcs0 (F := F)) adm0) ((kit0 (F := F)).cellOf_inj adm0)), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := main_around m)
    (hsplit := fun c => by rw [RDat.familyOf_self]; exact (rdat c).arrays_split_shared (kit0 (F := F)).sharedIn (kit0 (F := F)).arr_whole (hq c) (V m c) _ (hA c))
    (hpf := fun _ k => k.elim0)
    (X := fun c => iprop((∃ r, prngReg c r) ∗ ownSems0 (Ix := Unit) (Name := ℕ) (U := UD sig nD τ) (Lvl := ℕ) (Val := Elt F) (τ := τ) osem0 c
      ∗ (bigSep H0 fun b => ((c.tc : Thread nD τ).loc b) ↦{fullShare} V m c b)))
    (Y := fun c => iprop((∃ r, prngReg c r) ∗ (bigSep H0 fun b => ((c.tc : Thread nD τ).loc b) ↦{fullShare} V m c b)))
    (Z := fun c => bigSep (restRefsP sig Prefetch.none spec0 \ H0) fun b => ((c.tc : Thread nD τ).loc b) ↦{fullShare} V m c b)
    (Y' := fun _ => iprop(emp))
    (Z' := fun c => iprop(∃ A, ⌜∀ w, (rdat c).ArrAt w cfg0.N (A w)⌝
      ∗ unscopedRestP (Ix := Unit) (Name := ℕ) (U := UD sig nD τ) (Lvl := ℕ) Prefetch.none spec0 c (tailV m c A)))
    (hX := fun c => by
      iintro ⟨HU, Ho, -, Hp, -⟩; imodintro
      ihave HU' := (Entails.of_eq (unscopedRestP_sdiff Prefetch.none spec0 H0 H0_sub c (V m c))) $$ HU
      icases HU' with ⟨HH, HZ⟩
      isplitr [HZ]
      · isplitl [Hp]; · iexists _; iexact Hp
        isplitl [Ho]; · iexact Ho
        iexact HH
      · iexact HZ)
    (hin := fun c => by
      rw [RDat.familyOf_self]
      exact (show _ ⊢ ΦD osem0 spec0 H0 (V m) c by
        unfold ΦD; iintro ⟨⟨Hp, Ho, HH⟩, -, Hr⟩
        isplitl [Hr]; · iexact Hr
        isplitl [Hp]; · iexact Hp
        isplitl [Ho]; · iexact Ho
        iexact HH).trans (hin c))
    (hout := fun c => by
      rw [RDat.familyOf_self]
      exact (hout c).trans (by
        unfold ΦD
        iintro ⟨Hr, Hp, Ho, HH⟩
        isplitl [Hp HH]
        · isplitl [Hp]; · iexact Hp
          iexact HH
        isplitl [Ho]; · iexact Ho
        iexact Hr))
    (htail := fun c Q' => by
      iintro ⟨Hk, Hb, Ha, ⟨-, HH⟩, HZ⟩
      ihave Ha' := (harrAt c) $$ Ha
      icases Ha' with ⟨%A, %hA', Ha⟩
      have hB : (rdat c).arrays A = arrBufs spec0 c (fun b => withArrays spec0 c (V0 m c) A (Proc.devRef .tc b)) :=
        ((rdat c).arrBufs_eq_arrays (kit0 (F := F)).sharedIn (kit0 (F := F)).arr_whole (hq c) _ A fun w =>
          (withArrays_arr spec0 launch0.win.arr_inj c (V0 m c) A w).symm).symm
      iapply (tail_seqs_bufs_b (pcs0 (F := F)) defs₀ Variants.none Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]; · iapply (harrAt' c A hA'); iapply (Entails.of_eq hB.symm); iexact Ha2
        isplitr; · iempintro
        iexists A; isplitr; · ipureintro; exact hA'
        iexact Hu
      · isplitl [Hb]; · iexact Hb
        isplitl [Ha]; · iapply (Entails.of_eq hB); iexact Ha
        iapply (Entails.of_eq (unscopedRestP_sdiff Prefetch.none spec0 H0 H0_sub c (V m c)).symm)
        isplitl [HH]; · iexact HH
        iexact HZ)
    (QY := fun c s => ∃ A, (∀ w, (rdat c).ArrAt w cfg0.N (A w)) ∧ ∀ b ∈ restRefsP sig Prefetch.none spec0, s.mem ((c.tc : Thread nD τ).loc b) = tailV m c A b)
    (hY := fun c s' => by
      iintro ⟨-, HZ, HSI⟩
      icases HZ with ⟨%A, %hA', HZ⟩
      unfold unscopedRestP
      ihave HZ' := (pointsTo_read_all (restRefsP sig Prefetch.none spec0) (fun b => (c.tc : Thread nD τ).loc b) (tailV m c A) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => ⟨fun w => by simpa only [RDat.familyOf_self] using (h c).1 w, (h c).2.2⟩, hz⟩)

end Cert.KernelIdeal.Hand

end
-- ==== Proof.Forms.lean ====
/-
  The kernel's results in closed form, as functions of the blocks its grid points are handed: the scores, the rounds of the
  maximum search and the picks, the gathered rows, the prediction and the blocks of the recurrent step. Generic in the
  element values.
-/
module

public import proofs.«01_k».proof.Proof.Gen.KernelIdeal.Frame
public import proofs.«01_k».proof.Proof.Gen.KernelIdeal.Loops
public import proofs.«01_k».proof.Proof.Gen.KernelIdeal.Points
public import proofs.«01_k».proof.Proof.Gen.KernelIdeal.Skeleton
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (c : Dev nD)

/-- The query, as each grid point is handed it. -/
def qB (t : Fin grid0.N) : Vec F S1x2048 .f32 := iblk m c 1 t
/-- The last hidden state, as each grid point is handed it. -/
def h0B (t : Fin grid0.N) : Vec F S1x1024 .f32 := iblk m c 2 t
/-- The 512 questions of point `t`. -/
def questB (t : Fin grid0.N) : Vec F S512x2048 .f32 := iblk m c 3 t
/-- The 512 rows of the input weights of point `t`. -/
def wihB (t : Fin grid0.N) : Vec F S512x4096 .f32 := iblk m c 4 t
/-- The 512 rows of the hidden weights of point `t`. -/
def whhB (t : Fin grid0.N) : Vec F S512x1024 .f32 := iblk m c 5 t
/-- The input biases, one gate per row. -/
def bihB (t : Fin grid0.N) : Vec F S3x1024 .f32 := iblk m c 6 t
/-- The hidden biases, one gate per row. -/
def bhhB (t : Fin grid0.N) : Vec F S3x1024 .f32 := iblk m c 7 t
/-- The score layer's weights. -/
def wscB (t : Fin grid0.N) : Vec F S1x3072 .f32 := iblk m c 8 t
/-- The student's score. -/
def scoreB (t : Fin grid0.N) : Vec F S1x1 .f32 := iblk m c 0 t
/-- The score layer's bias. -/
def bscB (t : Fin grid0.N) : Vec F S1x1 .f32 := iblk m c 9 t

/-- Row `t` of the scores: the query against the 512 questions of point `t`. -/
def alphaRow (t : Fin grid0.N) : Vec F S1x512 .f32 := k0_pay2 (qB m c t) (questB m c t)

/-- All 4096 scores, 8 rows of 512. -/
def alpha : Vec F S8x512 .f32 :=
  fun y => alphaRow m c ⟨(y 0).val, by have := (y 0).isLt; rw [N_0]; exact Nat.lt_of_lt_of_le this (by decide)⟩ (ix2 (0 : Fin 1) (y 1 : Fin 512))

/-- The scores before round `n` of the search: each round overwrites the position of its maximum with −∞. -/
def aRound : ℕ → Vec F S8x512 .f32
  | 0 => alpha m c
  | n + 1 => k0_pay6 (aRound n)

theorem aRound_succ (n : ℕ) : aRound m c (n + 1) = k0_pay6 (aRound m c n) := rfl

/-- The maximum round `n` finds. -/
def val (n : ℕ) : F .f32 := k0_pay4 (aRound m c n)
/-- The position round `n` finds it at. -/
def pick (n : ℕ) : Elt F .i32 := extractAt ![0, 0, 0] (k0_pay5 (aRound m c n)) inpos_S1x1x1_p0_0_0

/-- The row of the hidden states round `n` picks. -/
def prow (n : ℕ) : Fin 4096 := ⟨(pick m c n).toNat % 4096, Nat.mod_lt _ (by decide)⟩

/-- The 64 maxima, as the softmax reads them. -/
def vals : Vec F S1x64 .f32 := fun y => val m c (y 1).val

/-- The hidden states the attention runs over, as launched. -/
def hsA : Vec F S4096x1x1024 .f32 := V m c main_arg3

/-- The 64 hidden states picked, one per row. -/
def gathered : Vec F S64x1024 .f32 :=
  fun y => hsA m c (ix3 (prow m c (y 0).val) (0 : Fin 1) (y 1 : Fin 1024))

/-- The one index of a 1x1 block. -/
abbrev ix11 : S1x1.Idx := ix2 (0 : Fin 1) (0 : Fin 1)

/-- The prediction, as point `t` computes it. -/
def pred (t : Fin grid0.N) : F .f32 :=
  k0_pay10 (qB m c t) (vals m c) (gathered m c) (wscB m c t) (bscB m c t ix11)

/-- Half `p` of row `g` of a block of `n` rows of 1024. -/
def half {n : ℕ} (x : Vec F ⟨2, ![n, 1024]⟩ .f32) (g : Fin n) (p : Fin 2) : Vec F S1x512 .f32 :=
  fun y => x (ix2 g (⟨512 * p.val + (y 1).val, by have : (y 1).val < 512 := (y 1).isLt; have := p.isLt; omega⟩ : Fin 1024))

/-- A row of 1024 from its two halves. -/
def join (x : Fin 2 → Vec F S1x512 .f32) : Vec F S1x1024 .f32 :=
  fun y => x ⟨(y 1).val / 512, by have : (y 1).val < 1024 := (y 1).isLt; omega⟩
    (ix2 (0 : Fin 1) (⟨(y 1).val % 512, Nat.mod_lt _ (by decide)⟩ : Fin 512))

/-- Half `p` of the reset gate: what point `8 + p` stores. -/
def rHalf (p : Fin 2) : Vec F S1x512 .f32 :=
  let t : Fin grid0.N := ⟨8 + p.val, by rw [N_0]; omega⟩
  k0_pay13 (qB m c t) (h0B m c t) (scoreB m c t ix11) (wihB m c t) (whhB m c t) (half (bihB m c t) 0 p) (half (bhhB m c t) 0 p)
/-- Half `p` of the update gate: what point `10 + p` stores. -/
def zHalf (p : Fin 2) : Vec F S1x512 .f32 :=
  let t : Fin grid0.N := ⟨10 + p.val, by rw [N_0]; omega⟩
  k0_pay14 (qB m c t) (h0B m c t) (scoreB m c t ix11) (wihB m c t) (whhB m c t) (half (bihB m c t) 1 p) (half (bhhB m c t) 1 p)
/-- Half `p` of the new hidden state: what point `12 + p` stores. -/
def hHalf (p : Fin 2) : Vec F S1x512 .f32 :=
  let t : Fin grid0.N := ⟨12 + p.val, by rw [N_0]; omega⟩
  k0_pay15 (qB m c t) (h0B m c t) (scoreB m c t ix11) (wihB m c t) (whhB m c t) (half (bihB m c t) 2 p) (half (bhhB m c t) 2 p)
    (rHalf m c p) (zHalf m c p) (half (n := 1) (h0B m c t) 0 p)

/-- The new hidden state. -/
def hNew : Vec F S1x1024 .f32 := join (hHalf m c)

end Cert.KernelIdeal.Hand

end
-- ==== Proof.Rows.lean ====
/-
  The transfers of the gather: row `j` of the scratch and the picked row of the hidden states, what each of the 64 transfers
  delivers, the step of one issue, and the scratch and the hidden states cut into rows and put together again.
-/
module

public import proofs.«01_k».proof.Proof.Forms
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows -/

/-- The scratch the picked hidden states land in. -/
def gM : Memref sig .tc .vmem S64x1024 .f32 := Memref.whole cc0_scratch2
/-- The hidden states. -/
def hM : Memref sig .tc .hbm S4096x1x1024 .f32 := Memref.whole main_arg3

/-- A row of the scratch, as the body cuts it. -/
def gRow (off : Fin 2 → ℕ) (h : ∀ a, off a + S1x1024.size a ≤ S64x1024.size a) : Memref sig .tc .vmem S1x1024 .f32 :=
  gM.slice (Rect.unit (s := S64x1024) off S1x1024.size h) (fun _ => rfl)
/-- A row of the hidden states, as the body cuts it. -/
def hRow (off : Fin 3 → ℕ) (h : ∀ a, off a + S1x1x1024.size a ≤ S4096x1x1024.size a) : Memref sig .tc .hbm S1x1024 .f32 :=
  (hM.slice (Rect.unit (s := S4096x1x1024) off S1x1x1024.size h) (fun _ => rfl)).squeeze S1x1024 squeezes_S1x1x1024_S1x1024

theorem g_inb (j : Fin 64) : ∀ a, (![j.val, 0] : Fin 2 → ℕ) a + S1x1024.size a ≤ S64x1024.size a := by
  have := j.isLt; intro a; fin_cases a
  · show j.val + 1 ≤ 64; omega
  · show 0 + 1024 ≤ 1024; omega
theorem h_inb (p : Fin 4096) : ∀ a, (![p.val, 0, 0] : Fin 3 → ℕ) a + S1x1x1024.size a ≤ S4096x1x1024.size a := by
  have := p.isLt; intro a; fin_cases a
  · show p.val + 1 ≤ 4096; omega
  · show 0 + 1 ≤ 1; omega
  · show 0 + 1024 ≤ 1024; omega

/-- The elements of row `j` of the scratch. -/
def gset (j : Fin 64) : Finset S64x1024.Idx := (Rect.unit (s := S64x1024) ![j.val, 0] S1x1024.size (g_inb j)).set
/-- The elements of row `p` of the hidden states. -/
def hset (p : Fin 4096) : Finset S4096x1x1024.Idx := (Rect.unit (s := S4096x1x1024) ![p.val, 0, 0] S1x1x1024.size (h_inb p)).set

theorem mem_gset (j : Fin 64) (y : S64x1024.Idx) : y ∈ gset j ↔ (y 0).val = j.val := by
  unfold gset
  rw [Rect.mem_set_unit]
  have h1 : (y 1).val < 1024 := (y 1).isLt
  constructor
  · intro H; have a0 : j.val ≤ (y 0).val ∧ (y 0).val < j.val + 1 := H 0; omega
  · intro H a; fin_cases a
    · show j.val ≤ (y 0).val ∧ (y 0).val < j.val + 1; omega
    · show 0 ≤ (y 1).val ∧ (y 1).val < 0 + 1024; omega

theorem gRow_set (j : Fin 64) : (gRow ![j.val, 0] (g_inb j)).view.set = gset j := by
  unfold gRow gset; exact View.set_slice_whole _ _
theorem hRow_set (p : Fin 4096) : (hRow ![p.val, 0, 0] (h_inb p)).view.set = hset p := by
  unfold hRow hset; exact (View.set_reshape _ _).trans (View.set_slice_whole _ _)

/-- One row's credit on the transfer's cell. -/
abbrev NN : ℕ := 128

/-- What reading row `p` of the hidden states gives at column `l`. -/
theorem hRow_read (p : Fin 4096) (f : S4096x1x1024.Idx → Elt F .f32) (x : S1x1024.Idx) :
    (hRow ![p.val, 0, 0] (h_inb p)).view.read (Elt F) f x = f (ix3 p (0 : Fin 1) (x 1 : Fin 1024)) := by
  refine (View.read_apply (v := (hRow ![p.val, 0, 0] (h_inb p)).view) (Val := Elt F) f x).trans ?_
  show f _ = f _
  congr 1
  have hx0 : (x 0).val < 1 := (x 0).isLt
  have hr : Shape.reshapeEquiv squeezes_S1x1x1024_S1x1024.numel_eq x = (ix3 (0 : Fin 1) (0 : Fin 1) (x 1 : Fin 1024) : S1x1x1024.Idx) := by
    refine Shape.reshapeEquiv_eq_of_rowMajor _ ?_
    rw [Shape.rowMajor_val_two, Shape.rowMajor_val_three]
    show _ = _
    simp; omega
  refine (congrArg (Rect.unit (s := S4096x1x1024) ![p.val, 0, 0] S1x1x1024.size (h_inb p)).emb hr).trans ?_
  funext a; apply Fin.ext
  fin_cases a
  · show p.val + 1 * 0 = p.val; omega
  · rfl
  · show 0 + 1 * (x 1).val = (x 1).val; omega

/-- Row `j` of the scratch, written: the payload there, whatever the scratch held. -/
theorem gRow_write (j : Fin 64) (f : S64x1024.Idx → Elt F .f32) (v : S1x1024.Idx → Elt F .f32) (y : S64x1024.Idx) (hy : y ∈ gset j) :
    (gRow ![j.val, 0] (g_inb j)).view.write (Elt F) f v Finset.univ y = v (ix2 (0 : Fin 1) (y 1 : Fin 1024)) := by
  have he : (gRow ![j.val, 0] (g_inb j)).view.emb (ix2 (0 : Fin 1) (y 1 : Fin 1024)) = y := by
    rw [mem_gset] at hy
    funext a; apply Fin.ext
    fin_cases a
    · show j.val + 1 * 0 = (y 0).val; omega
    · show 0 + 1 * (y 1).val = (y 1).val; omega
  have hw := View.write_emb_of_mem (v := (gRow ![j.val, 0] (g_inb j)).view) (Val := Elt F) f v (Finset.mem_univ (ix2 (0 : Fin 1) (y 1 : Fin 1024)))
  exact (congrArg _ he.symm).trans hw

/-! ## The transfers -/

variable (m : (ℓ : Loc nD τ sig) → Buf (Elt F) ℓ) (c : Dev nD)

/-- Row `j` of the scratch at contents `g`. -/
abbrev gPt (g : S64x1024.Idx → Elt F .f32) (j : Fin 64) : sProp 𝕄 := gM.view.loc (c : Thread nD τ) ↦[gset j]{fullShare} g
/-- Row `j` of the scratch at contents nothing names. -/
abbrev gAny (j : Fin 64) : sProp 𝕄 := iprop(∃ g, gPt c g j)
/-- Elements `S` of the hidden states under read token `j`. -/
abbrev hTok (S : Finset S4096x1x1024.Idx) (j : ℕ) : sProp 𝕄 :=
  hM.view.loc (c : Thread nD τ) ↦[S]{Transfers.shareTokN fullShare j} hsA m c

/-- What transfer `j` delivers: row `j` of the scratch at the picked hidden state, and the part of token `j` it read by. -/
abbrev delivery (j : Fin 64) : sProp 𝕄 := iprop(gPt c (gathered m c) j ∗ hTok m c (hset (prow m c j.val)) j.val)

instance delivery_storable (j : Fin 64) : Storable (upEmb : UEmb _ 𝕄) (delivery m c j) := by
  have st (ℓ : Loc nD τ sig) (I : Finset (Idx ℓ)) (q : PosShare TreeShare) (f : Buf (Elt F) ℓ) :
      Storable (upEmb : UEmb _ 𝕄) (ℓ ↦[I]{q} f : sProp 𝕄) := inferInstance
  have h1 : Storable (upEmb : UEmb _ 𝕄) (gPt c (gathered m c) j) := st _ _ _ _
  have h2 : Storable (upEmb : UEmb _ 𝕄) (hTok m c (hset (prow m c j.val)) j.val) := st _ _ _ _
  unfold delivery
  infer_instance

/-- The 64 transfers on the one cell: `j` issued, `u` units waited for. -/
abbrev batch (j u : ℕ) : sProp 𝕄 :=
  Transfers.Batch (countersEmb (U := Pipeline.UD sig nD τ)) (c : Thread nD τ) (.dma 15) () NN (delivery m c) j u

/-- What a transfer of the picked row into row `n` leaves there, element by element. -/
theorem landed_apply (n : Fin 64) (g : S64x1024.Idx → Elt F .f32) (y : S64x1024.Idx) (hy : y ∈ gset n) :
    (gRow ![n.val, 0] (g_inb n)).view.write (Elt F) g
        ((ReadAs.same (e := .f32)).apply ((hRow ![(prow m c n.val).val, 0, 0] (h_inb _)).view.read (Elt F) (hsA m c))) Finset.univ y
      = gathered m c y := by
  refine (gRow_write n g _ y hy).trans ?_
  refine (hRow_read (prow m c n.val) (hsA m c) _).trans ?_
  have : (y 0).val = n.val := (mem_gset _ _).1 hy
  unfold gathered
  rw [this]

/-- The same, of the row held. -/
theorem landed (n : Fin 64) (g : S64x1024.Idx → Elt F .f32) :
    (gM.view.loc (c : Thread nD τ) ↦[gset n]{fullShare} (gRow ![n.val, 0] (g_inb n)).view.write (Elt F) g
        ((ReadAs.same (e := .f32)).apply ((hRow ![(prow m c n.val).val, 0, 0] (h_inb _)).view.read (Elt F) (hsA m c))) Finset.univ : sProp 𝕄)
      = gPt c (gathered m c) n :=
  pointsTo_congr (landed_apply m c n g)

/-- ONE ISSUE: transfer `n`, the picked row into row `n`. -/
theorem wp_issue (n : Fin 64) (off2 : Fin 2 → ℕ) (h2) (e2 : off2 = ![n.val, 0]) (off3 : Fin 3 → ℕ) (h3)
    (e3 : off3 = ![(prow m c n.val).val, 0, 0]) {α : Type} {k : PUnit → Prog (TpuEff nD τ sig (Elt F) Λ₀ .tc) α} {Q : α → sProp 𝕄}
    {hsrc hdst hsem} (g : S64x1024.Idx → Elt F .f32) :
    iprop(hTok m c (hset (prow m c n.val)) n.val ∗ gPt c g n ∗ batch m c n.val 0)
      ⊢ iprop((batch m c (n.val + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma (hRow off3 h3) (.here (gRow off2 h2)) (.dma 15) hsrc hdst hsem) k) Q) := by
  subst e2 e3
  refine BIBase.Entails.trans ?_ (Transfers.wp_dmaBatch (countersEmb (U := Pipeline.UD sig nD τ)) Variants.none (c : Thread nD τ) none
    (src := hRow ![(prow m c n.val).val, 0, 0] h3) (dst := gRow ![n.val, 0] h2) (Sd := gset n) (q := Transfers.shareTokN fullShare n.val) (fs := hsA m c) (fd := g)
    (D := delivery m c) (u := 0) () NN rfl (gRow_set n).subset n.isLt (Nat.zero_le _) ?_)
  · rw [hRow_set]; exact .rfl
  · rw [hRow_set]
    exact Entails.of_eq (congrArg (fun x : sProp 𝕄 => iprop(x ∗ hTok m c (hset (prow m c n.val)) n.val)) (landed m c n g))

/-! ## Before, during and after the transfers -/

/-- The read tokens' remainder. -/
abbrev hRest : sProp 𝕄 := hM.view.loc (c : Thread nD τ) ↦{Transfers.shareDrop fullShare 64} hsA m c
/-- The part of token `j` transfer `j` does not read by. -/
abbrev hLeft (j : Fin 64) : sProp 𝕄 := hTok m c (Finset.univ \ hset (prow m c j.val)) j.val

/-- With `n` transfers issued: the batch, the rows not yet written, their tokens, what issued transfers left. -/
def inFlight (n : ℕ) : sProp 𝕄 :=
  iprop(batch m c n 0 ∗ bigSep (Ring.rangeSet 64 n 64) (gAny c) ∗ bigSep (Ring.rangeSet 64 n 64) (fun j => hTok m c Finset.univ j.val)
    ∗ bigSep (Ring.rangeSet 64 0 n) (hLeft m c) ∗ hRest m c)

/-- A token is what a transfer of row `p` reads by and the rest. -/
theorem tok_split (p : Fin 4096) (j : ℕ) :
    hTok m c Finset.univ j ⊣⊢ (iprop(hTok m c (hset p) j ∗ hTok m c (Finset.univ \ hset p) j) : sProp 𝕄) :=
  pointsTo_split_subset (ℓ := hM.view.loc (c : Thread nD τ)) (Finset.subset_univ (hset p))

/-- ONE ISSUE, of all that is in flight. -/
theorem wp_issue_flight (n : ℕ) (hn : n < 64) (off2 : Fin 2 → ℕ) (h2) (e2 : off2 = ![n, 0]) (off3 : Fin 3 → ℕ) (h3)
    (e3 : off3 = ![(prow m c n).val, 0, 0]) {α : Type} {k : PUnit → Prog (TpuEff nD τ sig (Elt F) Λ₀ .tc) α} {Q : α → sProp 𝕄}
    {hsrc hdst hsem} :
    inFlight m c n
      ⊢ iprop((inFlight m c (n + 1) -∗ wp frame (wpE (defs₀ (F := F)) Variants.none (c : Thread nD τ) none) Set.univ (k ⟨⟩) Q)
        -∗ wp frame (wpE (defs₀ (F := F)) Variants.none (c : Thread nD τ) none) Set.univ
          (.op (.enqueueDma (hRow off3 h3) (.here (gRow off2 h2)) (.dma 15) hsrc hdst hsem) k) Q) := by
  unfold inFlight
  rw [Ring.bigSep_rangeSet_head (Φ := gAny c) hn hn,
    Ring.bigSep_rangeSet_head (Φ := fun j : Fin 64 => hTok m c Finset.univ j.val) hn hn,
    Ring.bigSep_rangeSet_last (Φ := hLeft m c) (lo := 0) (hi := n + 1) (Nat.succ_pos n) hn]
  iintro ⟨HB, ⟨⟨%g, Hg⟩, Hgs⟩, ⟨Ht, Hts⟩, Hl, Hr⟩ Hk
  ihave Ht' := (tok_split m c (prow m c n) n).1 $$ Ht
  icases Ht' with ⟨Ht, Htl⟩
  iapply (wp_issue m c ⟨n, hn⟩ off2 h2 e2 off3 h3 e3 g) $$ [HB Hg Ht]
  · isplitl [Ht]; · iexact Ht
    isplitl [Hg]; · iexact Hg
    iexact HB
  iintro HB
  iapply Hk
  isplitl [HB]; · iexact HB
  isplitl [Hgs]; · iexact Hgs
  isplitl [Hts]; · iexact Hts
  isplitr [Hr]
  · isplitl [Htl]; · iexact Htl
    iexact Hl
  iexact Hr

/-! ### The scratch and the hidden states as rows -/

theorem gset_disjoint : ∀ j j' : Fin 64, j ≠ j' → Disjoint (gset j) (gset j') := fun j j' hne => by
  rw [Finset.disjoint_left]; intro y hy hy'; rw [mem_gset] at hy hy'; exact hne (Fin.ext (by omega))
theorem gset_cover : Finset.univ.biUnion gset = Finset.univ := by
  ext y; simp only [Finset.mem_biUnion, Finset.mem_univ, true_and, iff_true]; exact ⟨y 0, (mem_gset _ _).mpr rfl⟩

/-- The scratch whole is its rows. -/
theorem g_rows (g : S64x1024.Idx → Elt F .f32) :
    (gM.view.loc (c : Thread nD τ) ↦{fullShare} g : sProp 𝕄) = bigSep Finset.univ (gPt c g) :=
  Ring.pointsTo_blocks (ℓ := gM.view.loc (c : Thread nD τ)) (q := fullShare) gset gset_disjoint gset_cover g

/-- The hidden states whole, and their tokens. -/
theorem h_toks :
    (hM.view.loc (c : Thread nD τ) ↦{fullShare} hsA m c : sProp 𝕄)
      ⊣⊢ iprop(hRest m c ∗ bigSep Finset.univ (fun j : Fin 64 => hTok m c Finset.univ j.val)) := by
  have h := Transfers.pointsTo_toks_range (Val := Elt F) (Ix := Unit) (Name := ℕ) (U := Pipeline.UD sig nD τ) (Lvl := ℕ)
    (ℓ := hM.view.loc (c : Thread nD τ)) (S := Finset.univ) (f := hsA m c) fullShare 64
  have e := Ring.bigSep_rangeSet_eq_range (NB := 64) (lo := 0) (hi := 64) (Φ := fun j : Fin 64 => hTok m c Finset.univ j.val) le_rfl
    (fun j => hTok m c Finset.univ j) (fun k hk => by show hTok m c Finset.univ k = hTok m c Finset.univ (0 + k); rw [Nat.zero_add])
  rw [Ring.rangeSet_univ] at e
  rw [e]
  exact h

/-- Nothing issued yet: the cell at zero, the scratch and the hidden states whole. -/
theorem inFlight_start (g : S64x1024.Idx → Elt F .f32) {E : Set ℕ} :
    iprop(semVal ((c : Thread nD τ), SemLoc.dma 15) 0 ∗ (gM.view.loc (c : Thread nD τ) ↦{fullShare} g)
        ∗ hM.view.loc (c : Thread nD τ) ↦{fullShare} hsA m c)
      ⊢ (iprop(|={E}=> inFlight m c 0) : sProp 𝕄) := by
  unfold inFlight
  rw [Ring.rangeSet_univ, Ring.bigSep_rangeSet_empty le_rfl]
  iintro ⟨Hq, Hg, Hh⟩
  imod (Transfers.batch_alloc' (Lvl := ℕ) (countersEmb (U := Pipeline.UD sig nD τ)) (c : Thread nD τ) () NN (delivery m c)
    (sm := .dma 15) (E := E)) $$ Hq with HB
  imodintro
  ihave Hh' := (h_toks m c).1 $$ Hh
  icases Hh' with ⟨Hr, Ht⟩
  isplitl [HB]; · iexact HB
  isplitl [Hg]
  · iapply ((Entails.of_eq (g_rows c g)).trans (BI.bigSep_mono fun j _ => show gPt c g j ⊢ gAny c j by iintro H; iexists g; iexact H)) $$ Hg
  isplitl [Ht]; · iexact Ht
  isplitr; · iempintro
  iexact Hr

/-- All 64 issued: the batch and what the transfers left. -/
theorem inFlight_all :
    inFlight m c 64 ⊢ (iprop(batch m c 64 0 ∗ bigSep Finset.univ (hLeft m c) ∗ hRest m c) : sProp 𝕄) := by
  unfold inFlight
  rw [Ring.rangeSet_univ]
  iintro ⟨HB, -, -, Hl, Hr⟩
  isplitl [HB]; · iexact HB
  isplitl [Hl]; · iexact Hl
  iexact Hr

/-- All 64 delivered: the scratch at the picked rows, the hidden states whole. -/
theorem delivered :
    iprop(bigSep Finset.univ (delivery m c) ∗ bigSep Finset.univ (hLeft m c) ∗ hRest m c)
      ⊢ (iprop((gM.view.loc (c : Thread nD τ) ↦{fullShare} gathered m c) ∗ hM.view.loc (c : Thread nD τ) ↦{fullShare} hsA m c) : sProp 𝕄) := by
  iintro ⟨Hd, Hl, Hr⟩
  ihave Hd' := (show bigSep Finset.univ (delivery m c)
      ⊢ iprop(bigSep Finset.univ (gPt c (gathered m c)) ∗ bigSep Finset.univ (fun j : Fin 64 => hTok m c (hset (prow m c j.val)) j.val))
    from Entails.of_eq (BI.bigSep_sep _ _ _)) $$ Hd
  icases Hd' with ⟨Hg, Ht⟩
  isplitl [Hg]; · iapply (Entails.of_eq (g_rows c (gathered m c)).symm) $$ Hg
  iapply (h_toks m c).2
  isplitl [Hr]; · iexact Hr
  iapply (show iprop(bigSep Finset.univ (fun j : Fin 64 => hTok m c (hset (prow m c j.val)) j.val) ∗ bigSep Finset.univ (hLeft m c))
      ⊢ bigSep Finset.univ (fun j : Fin 64 => hTok m c Finset.univ j.val) from
    (Entails.of_eq (BI.bigSep_sep _ _ _).symm).trans (BI.bigSep_mono fun j _ =>
      (tok_split m c (prow m c j.val) j.val).2))
  isplitl [Ht]; · iexact Ht
  iexact Hl

end Cert.KernelIdeal.Hand

end
-- ==== Proof.Loops.lean ====
/-
  The two loops of the kernel: the search, whose every trip finds one maximum and issues the transfer of the hidden state
  at its position, and the 64 waits.
-/
module

public import proofs.«01_k».proof.Proof.Rows

@[expose] public section

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The words of the search -/

theorem trips1 : k0_t1_loop.trips = 16 := by decide
theorem trips2 : k0_t2_loop.trips = 64 := by decide

/-- The number of the round, as the kernel computes it from the point and the trip. -/
theorem round_word : ∀ (i : Fin 14) (k : Fin 16), 8 ≤ i.val → i.val < 12 →
    Scalar.addi (Scalar.muli (Scalar.subi (BitVec.ofNat 32 i.val) 8#32) 16#32) (Scf.iv 0#32 1#32 k)
      = BitVec.ofNat 32 (16 * (i.val - 8) + k.val) := by decide

/-- The row round `k` of the search at point `8 + u` fills. -/
theorem off2_eq (i : grid0.Coords) (k : Fin k0_t1_loop.trips) (u : ℕ) (hu : u < 4) (hi : (i 0).val = 8 + u) :
    k0_off2 i k = ![16 * u + k.val, 0] := by
  have hk : k.val < 16 := Nat.lt_of_lt_of_eq k.isLt trips1
  have h := congrArg BitVec.toNat (round_word (i 0) (k.cast trips1) (by omega) (by omega))
  rw [hi, Nat.add_sub_cancel_left, BitVec.toNat_ofNat, Nat.mod_eq_of_lt (by show 16 * u + k.val < _; omega)] at h
  rw [← hi] at h
  unfold k0_off2
  funext a
  fin_cases a
  · exact h
  · rfl

/-- Choosing on the equality of two small words. -/
theorem select_eq_word {α : Type} (a b : α) (p q : ℕ) (hp : p < 64) (hq : q < 64) :
    Scalar.select (Scalar.cmpi .eq (BitVec.ofNat 32 p) (BitVec.ofNat 32 q)) a b = if p = q then a else b := by
  split
  · next e => rw [e]; simp [Scalar.select, Scalar.cmpi, IntOp.cmpi]
  · next e =>
    have : BitVec.ofNat 32 p ≠ BitVec.ofNat 32 q := fun hc => e (by
      have := congrArg BitVec.toNat hc
      simp only [BitVec.toNat_ofNat] at this
      omega)
    have hb : (BitVec.ofNat 32 p == BitVec.ofNat 32 q) = false := by simpa using this
    simp [Scalar.select, Scalar.cmpi, IntOp.cmpi, hb]

/-- The vector of maxima after a round: the new maximum at the round's number, the others as they were. -/
theorem pay7_apply {F : FTy → Type} [FloatOps F] (i : grid0.Coords) (k : Fin k0_t1_loop.trips) (u : ℕ) (hu : u < 4) (hi : (i 0).val = 8 + u)
    (a : Vec F S8x512 .f32) (v : Vec F S1x64 .f32) (y : S1x64.Idx) :
    k0_pay7 i k a v y = if (y 1).val = 16 * u + k.val then k0_pay4 a else v y := by
  have hk : k.val < 16 := Nat.lt_of_lt_of_eq k.isLt trips1
  have hy : (y 1).val < 64 := (y 1).isLt
  have hq : 16 * u + k.val < 64 := by omega
  have hw : k0_pay7 i k a v y = Scalar.select (Scalar.cmpi .eq (BitVec.ofNat 32 (0 * 64 + (y 1).val))
      (Scalar.addi (Scalar.muli (Scalar.subi (BitVec.ofNat 32 (i 0).val) 8#32) 16#32) (Scf.iv 0#32 1#32 (k.cast trips1)))) (k0_pay4 a) (v y) := by
    unfold k0_pay7
    simp only [select_apply, broadcast_apply]
    rfl
  rw [hw, round_word (i 0) (k.cast trips1) (by rw [hi]; exact Nat.le_add_right _ _) (by rw [hi]; exact Nat.add_lt_add_left hu 8), hi,
    Nat.add_sub_cancel_left, Nat.zero_mul, Nat.zero_add]
  exact select_eq_word _ _ _ _ hy hq

variable (m : (ℓ : Loc nD τ sig) → Buf (Elt F) ℓ) (c : Dev nD)

section Loops

variable (i : grid0.Coords) (arg1 : Memref sig .tc .smem S1x1 .f32) (harg1 : arg1.IsWhole) (arg2 : Memref sig .tc .vmem S1x2048 .f32) (harg2 : arg2.IsWhole) (arg3 : Memref sig .tc .vmem S1x1024 .f32) (harg3 : arg3.IsWhole) (arg4 : Memref sig .tc .vmem S512x2048 .f32) (harg4 : arg4.IsWhole) (arg5 : Memref sig .tc .vmem S512x4096 .f32) (harg5 : arg5.IsWhole) (arg6 : Memref sig .tc .vmem S512x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x3072 .f32) (harg9 : arg9.IsWhole) (arg10 : Memref sig .tc .smem S1x1 .f32) (harg10 : arg10.IsWhole) (arg12 : Memref sig .tc .smem S1x1 .f32) (harg12 : arg12.IsWhole) (arg13 : Memref sig .tc .vmem S1x1024 .f32) (harg13 : arg13.IsWhole)

/-- The searches of one point: before trip `k` the scores are `16 u + k` rounds on, the maxima found so far stand in the
    vector, and as many transfers are issued. -/
def searchInv (u k : ℕ) (acc : Vec F S8x512 .f32 × Vec F S1x64 .f32) : sProp 𝕄 :=
  iprop(⌜acc.1 = aRound m c (16 * u + k) ∧ ∀ y : S1x64.Idx, (y 1).val < 16 * u + k → acc.2 y = val m c (y 1).val⌝
    ∗ inFlight m c (16 * u + k))

theorem search_step (u : ℕ) (hu : u < 4) (hi : (i 0).val = 8 + u) (hp : ∀ n, n < 64 → (pick m c n).toNat < 4096)
    (k0_h2 : k0_cond2 i = 1#1) (k : Fin k0_t1_loop.trips) (acc : Vec F S8x512 .f32 × Vec F S1x64 .f32) :
    searchInv m c u k.val acc
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 k0_h2 k acc)
        (searchInv m c u (k.val + 1)) := by
  obtain ⟨a, v⟩ := acc
  have hk : k.val < 16 := Nat.lt_of_lt_of_eq k.isLt trips1
  have hn : 16 * u + k.val < 64 := by omega
  unfold searchInv
  iintro ⟨%hacc, Hf⟩
  obtain ⟨ha, hv⟩ := hacc
  subst ha
  have hpk := hp _ hn
  have hchk : k0_chk1 i (pick m c (16 * u + k.val)) := fun _ => by
    intro a'; fin_cases a'
    · show (pick m c (16 * u + k.val)).toNat + 1 ≤ 4096; omega
    · show 0 + 1 ≤ 1; omega
    · show 0 + 1024 ≤ 1024; omega
  unfold k0_t1_body
  dsimp only
  sl_exec
  iapply (wp_issue_flight m c (16 * u + k.val) hn (k0_off2 i k) (k0_off2_inb i k k0_h2) (off2_eq i k u hu hi)
    (k0_off3 (pick m c (16 * u + k.val))) (k0_off3_inb i _ hchk k0_h2)
    (by show ![_, 0, 0] = ![_ % 4096, 0, 0]; rw [Nat.mod_eq_of_lt hpk])) $$ Hf
  iintro Hf
  sl_step
  isplitr
  · ipureintro
    have e1 : 16 * u + (k.val + 1) = 16 * u + k.val + 1 := (Nat.add_assoc _ _ _).symm
    rw [e1, aRound_succ]
    dsimp only
    refine ⟨rfl, fun y hy => ?_⟩
    rw [pay7_apply i k u hu hi]
    split
    · next e => rw [e]; unfold val; rfl
    · next e => exact hv y (by omega)
  iexact Hf

/-- The waits: before trip `k`, `k` arrivals are consumed; after the last the semaphore is at zero and every arrival is in hand. -/
def drainInv (k : ℕ) : sProp 𝕄 :=
  if k < 64 then iprop(batch m c 64 (k * NN) ∗ ∃ W, owes (c : Thread nD τ) 0 W)
  else iprop(bigSep Finset.univ (delivery m c) ∗ semVal ((c : Thread nD τ), SemLoc.dma 15) 0 ∗ ∃ W, owes (c : Thread nD τ) 0 W)

theorem drain_step (k0_h3 : k0_cond3 i = 1#1) (k : Fin k0_t2_loop.trips) (acc : Unit) :
    drainInv m c k.val
      ⊢ wp frame (wpE (defs₀ (F := F)) Variants.none (c : Thread nD τ) none) Set.univ
        (k0_t2_body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 k0_h3 k acc)
        (fun _ => drainInv m c (k.val + 1)) := by
  have hk : k.val < 64 := Nat.lt_of_lt_of_eq k.isLt trips2
  unfold drainInv k0_t2_body
  rw [if_pos hk]
  iintro ⟨HB, %W, HO⟩
  by_cases hl : k.val + 1 < 64
  · rw [if_pos hl]
    iapply (Transfers.wp_waitBatch (countersEmb (U := Pipeline.UD sig nD τ)) Variants.none (c : Thread nD τ) none () (N := NN) rfl
      (show k.val * NN + NN < NN * 64 by unfold NN; omega)) $$ [HB HO]
    · isplitl [HB]; · iexact HB
      iexact HO
    iintro ⟨HB, HO⟩
    dsimp only [Prog.bind]
    sl_step
    isplitl [HB]
    · rw [Nat.succ_mul]; iexact HB
    iexists _
    iexact HO
  · rw [if_neg hl]
    iapply (Transfers.wp_waitBatchLast (countersEmb (U := Pipeline.UD sig nD τ)) Variants.none (c : Thread nD τ) none () (N := NN) rfl
      (by unfold NN; decide) (show k.val * NN + NN = NN * 64 by unfold NN; omega)) $$ [HB HO]
    · isplitl [HB]; · iexact HB
      iexact HO
    iintro ⟨HD, HS, HO⟩
    dsimp only [Prog.bind]
    sl_step
    isplitl [HD]; · iexact HD
    isplitl [HS]; · iexact HS
    iexists _
    iexact HO

end Loops

end Cert.KernelIdeal.Hand

end
-- ==== Proof.Body.lean ====
/-
  The kernel's body at one grid point, one theorem for each kind of point: scoring 512 questions; searching while a half of
  the reset or the update gate is computed; the waits, the prediction and the first half of the new hidden state; its
  second half. Each says what the windows and the scratch buffers hold afterwards.
-/
module

public import proofs.«01_k».proof.Proof.Loops
public import Idealize.ShloMosaic.Lib.VecWindow
public import Idealize.ShloMosaic.Lib.Pointwise.Reshape

@[expose] public section

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The offsets of the halves -/

theorem half_word : ∀ s : Fin 14, 8 ≤ s.val →
    (Scalar.indexCast (Scalar.muli (Scalar.remsi (Scalar.subi (BitVec.ofNat 32 s.val) 8#32) 2#32) 512#32)).toNat = 512 * (s.val % 2) := by decide

/-- The half a point from 8 on works at: row `g`, the columns of its parity. -/
theorem off_half {off : Fin 2 → ℕ} (i : grid0.Coords) (g : ℕ) (h : 8 ≤ (i 0).val) (p : Fin 2) (hp : (i 0).val % 2 = p.val)
    (e : off = ![g, (Scalar.indexCast (Scalar.muli (Scalar.remsi (Scalar.subi (BitVec.ofNat 32 (i 0).val) 8#32) 2#32) 512#32)).toNat]) :
    off = ![g, 512 * p.val] := by
  rw [e, half_word (i 0) h, hp]

/-- Reading half `p` of row `g` of a block. -/
theorem window_half {n : ℕ} (x : Vec F ⟨2, ![n, 1024]⟩ .f32) (g : Fin n) (p : Fin 2) (inb) :
    VecWindow.window (s := ⟨2, ![n, 1024]⟩) x ![g.val, 512 * p.val] S1x512.size inb = half x g p := by
  funext y
  refine congrArg x (funext fun a => Fin.ext ?_)
  have h0 : (y 0).val = 0 := Nat.lt_one_iff.mp (y 0).isLt
  fin_cases a
  · show g.val + 1 * (y 0).val = g.val; omega
  · show 512 * p.val + 1 * (y 1).val = 512 * p.val + (y 1).val; omega

/-- A load of half `p` of row `g`. -/
theorem readAt_half {n : ℕ} {sp : Space} (V : View sig .tc sp ⟨2, ![n, 1024]⟩ .f32) (f : V.ty.Contents (Elt F)) (x : Vec F ⟨2, ![n, 1024]⟩ .f32)
    (hx : V.read (Elt F) f = x) (g : Fin n) (p : Fin 2) {off : Fin 2 → ℕ} (inb) (e : off = ![g.val, 512 * p.val]) :
    V.readAt (Elt F) (Rect.unit (s := ⟨2, ![n, 1024]⟩) off S1x512.size inb).toLoadRect f = half x g p := by
  subst e
  rw [View.readAt_unit V f inb rfl inb, hx]
  exact window_half x g p inb

/-- A load of the one word of a 1x1 block. -/
theorem readAt_one (V : View sig .tc .smem S1x1 .f32) (f : V.ty.Contents (Elt F)) (x : Vec F S1x1 .f32)
    (hx : V.read (Elt F) f = x) (inb) (j : S1x1.Idx) :
    V.readAt (Elt F) (Rect.unit (s := S1x1) ![0, 0] S1x1.size inb).toLoadRect f j = x ix11 := by
  rw [View.readAt_full V f inb, hx]
  refine congrArg x (funext fun a => ?_)
  fin_cases a <;> exact Subsingleton.elim (α := Fin 1) _ _

variable (m : (ℓ : Loc nD τ sig) → Buf (Elt F) ℓ) (c : Dev nD)

/-- The scratch buffers: scores, maxima, gathered rows, reset gate, update gate. -/
abbrev aM : Memref sig .tc .vmem S8x512 .f32 := Memref.whole cc0_scratch0
abbrev vM : Memref sig .tc .vmem S1x64 .f32 := Memref.whole cc0_scratch1
abbrev rM : Memref sig .tc .vmem S1x1024 .f32 := Memref.whole cc0_scratch3
abbrev zM : Memref sig .tc .vmem S1x1024 .f32 := Memref.whole cc0_scratch4

/-- Holding a memref's buffer, its contents read off afterwards. -/
theorem owns_intro {sp : Space} {s : Shape} {e : EltTy} (M : Memref sig .tc sp s e) (d : s.Idx → Elt F e) :
    iprop(∃ f, (M.view.loc (c : Thread nD τ) ↦[M.view.set]{fullShare} f) ∗ ⌜M.view.read (Elt F) f = d⌝)
      ⊢ (iprop(∃ f, ⌜M.view.read (Elt F) f = d⌝ ∗ (M.view.loc (c : Thread nD τ) ↦[M.view.set]{fullShare} f)) : sProp 𝕄) := by
  iintro ⟨%f, H, %h⟩
  iexists f
  isplitr; · ipureintro; exact h
  iexact H

/-- What the recurrent step's points read: score, query, last hidden state, the weights' blocks, the biases. -/
abbrev ins (arg1 : Memref sig .tc .smem S1x1 .f32) (arg2 : Memref sig .tc .vmem S1x2048 .f32) (arg3 : Memref sig .tc .vmem S1x1024 .f32)
    (arg5 : Memref sig .tc .vmem S512x4096 .f32) (arg6 : Memref sig .tc .vmem S512x1024 .f32)
    (arg7 arg8 : Memref sig .tc .vmem S3x1024 .f32)
    (sc : Vec F S1x1 .f32) (q : Vec F S1x2048 .f32) (h0 : Vec F S1x1024 .f32) (wih : Vec F S512x4096 .f32) (whh : Vec F S512x1024 .f32)
    (bih bhh : Vec F S3x1024 .f32) : sProp 𝕄 :=
  iprop(owns (c : Thread nD τ) arg1 fullShare sc ∗ owns (c : Thread nD τ) arg2 fullShare q ∗ owns (c : Thread nD τ) arg3 fullShare h0
    ∗ owns (c : Thread nD τ) arg5 fullShare wih ∗ owns (c : Thread nD τ) arg6 fullShare whh
    ∗ owns (c : Thread nD τ) arg7 fullShare bih ∗ owns (c : Thread nD τ) arg8 fullShare bhh)

/-- The inputs handed back as they were. -/
theorem ins_back (arg1 : Memref sig .tc .smem S1x1 .f32) (arg2 : Memref sig .tc .vmem S1x2048 .f32) (arg3 : Memref sig .tc .vmem S1x1024 .f32)
    (arg5 : Memref sig .tc .vmem S512x4096 .f32) (arg6 : Memref sig .tc .vmem S512x1024 .f32)
    (arg7 arg8 : Memref sig .tc .vmem S3x1024 .f32)
    (sc : Vec F S1x1 .f32) (q : Vec F S1x2048 .f32) (h0 : Vec F S1x1024 .f32) (wih : Vec F S512x4096 .f32) (whh : Vec F S512x1024 .f32)
    (bih bhh : Vec F S3x1024 .f32)
    (f1 f2 f3 f5 f6 f7 f8) (e1 : arg1.view.read (Elt F) f1 = sc) (e2 : arg2.view.read (Elt F) f2 = q) (e3 : arg3.view.read (Elt F) f3 = h0) (e5 : arg5.view.read (Elt F) f5 = wih) (e6 : arg6.view.read (Elt F) f6 = whh) (e7 : arg7.view.read (Elt F) f7 = bih) (e8 : arg8.view.read (Elt F) f8 = bhh) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ ins c arg1 arg2 arg3 arg5 arg6 arg7 arg8 sc q h0 wih whh bih bhh := by
  unfold ins owns
  iintro ⟨H1, H2, H3, H5, H6, H7, H8⟩
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists f8; isplitr; · ipureintro; exact e8
  iexact H8

section Points

variable (i : grid0.Coords) (arg1 : Memref sig .tc .smem S1x1 .f32) (harg1 : arg1.IsWhole) (arg2 : Memref sig .tc .vmem S1x2048 .f32) (harg2 : arg2.IsWhole) (arg3 : Memref sig .tc .vmem S1x1024 .f32) (harg3 : arg3.IsWhole) (arg4 : Memref sig .tc .vmem S512x2048 .f32) (harg4 : arg4.IsWhole) (arg5 : Memref sig .tc .vmem S512x4096 .f32) (harg5 : arg5.IsWhole) (arg6 : Memref sig .tc .vmem S512x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x3072 .f32) (harg9 : arg9.IsWhole) (arg10 : Memref sig .tc .smem S1x1 .f32) (harg10 : arg10.IsWhole) (arg12 : Memref sig .tc .smem S1x1 .f32) (harg12 : arg12.IsWhole) (arg13 : Memref sig .tc .vmem S1x1024 .f32) (harg13 : arg13.IsWhole)

/-- A point that scores: its row of the scores is written. -/
theorem run_score (h1 : k0_cond1 i = 1#1) (h2 : ¬ k0_cond2 i = 1#1) (h3 : ¬ k0_cond3 i = 1#1) (h4 : ¬ k0_cond4 i = 1#1)
    (q : Vec F S1x2048 .f32) (h0 : Vec F S1x1024 .f32) (quest : Vec F S512x2048 .f32) (a : Vec F S8x512 .f32) (K : PUnit → sProp 𝕄) :
    iprop(owns (c : Thread nD τ) arg2 fullShare q ∗ owns (c : Thread nD τ) arg3 fullShare h0 ∗ owns (c : Thread nD τ) arg4 fullShare quest
        ∗ owns (c : Thread nD τ) aM fullShare a
        ∗ (iprop(owns (c : Thread nD τ) arg2 fullShare q ∗ owns (c : Thread nD τ) arg3 fullShare h0 ∗ owns (c : Thread nD τ) arg4 fullShare quest
            ∗ owns (c : Thread nD τ) aM fullShare (VecWindow.put a (k0_off1 i) S1x512.size (k0_pay2 q quest))) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  simp only [cc0__body_eq_skeleton]; unfold cc0__body_skel
  unfold owns
  iintro ⟨⟨%f2, %e2, H2⟩, ⟨%f3, %e3, H3⟩, ⟨%f4, %e4, H4⟩, ⟨%fa, %ea, Ha⟩, Hk⟩
  sl_exec
  sl_step
  iapply Hk
  isplitl [H2]
  · iapply (owns_intro c arg2 _); iexists _; isplitl [H2]; · iexact H2
    ipureintro; exact e2
  isplitl [H3]
  · iapply (owns_intro c arg3 _); iexists _; isplitl [H3]; · iexact H3
    ipureintro; exact e3
  isplitl [H4]
  · iapply (owns_intro c arg4 _); iexists _; isplitl [H4]; · iexact H4
    ipureintro; exact e4
  iapply (owns_intro c aM _); iexists _; isplitl [Ha]; · iexact Ha
  ipureintro
  refine (View.read_writes_cons_put aM.view fa _ _ [] rfl).trans ?_
  rw [View.readAt_full, View.readAt_full, e2, e4, View.writes_nil, ea]

/-- A searching point that computes half `p` of the reset gate. -/
theorem run_reset (u : ℕ) (hu : u < 4) (hi : (i 0).val = 8 + u) (p : Fin 2) (hpar : (i 0).val % 2 = p.val)
    (hp : ∀ n, n < 64 → (pick m c n).toNat < 4096)
    (h1 : ¬ k0_cond1 i = 1#1) (h2 : k0_cond2 i = 1#1) (h3 : ¬ k0_cond3 i = 1#1) (h4 : k0_cond4 i = 1#1)
    (h5 : k0_cond5 i = 1#1) (h6 : ¬ k0_cond6 i = 1#1) (h7 : ¬ k0_cond7 i = 1#1)
    (sc : Vec F S1x1 .f32) (q : Vec F S1x2048 .f32) (h0 : Vec F S1x1024 .f32) (wih : Vec F S512x4096 .f32) (whh : Vec F S512x1024 .f32)
    (bih bhh : Vec F S3x1024 .f32) (v : Vec F S1x64 .f32) (hv : ∀ y : S1x64.Idx, (y 1).val < 16 * u → v y = val m c (y 1).val)
    (r : Vec F S1x1024 .f32) (K : PUnit → sProp 𝕄) :
    iprop(ins c arg1 arg2 arg3 arg5 arg6 arg7 arg8 sc q h0 wih whh bih bhh
        ∗ owns (c : Thread nD τ) aM fullShare (aRound m c (16 * u)) ∗ owns (c : Thread nD τ) vM fullShare v
        ∗ inFlight m c (16 * u) ∗ owns (c : Thread nD τ) rM fullShare r
        ∗ (iprop(ins c arg1 arg2 arg3 arg5 arg6 arg7 arg8 sc q h0 wih whh bih bhh
            ∗ owns (c : Thread nD τ) aM fullShare (aRound m c (16 * u + 16))
            ∗ (∃ v' : Vec F S1x64 .f32, ⌜∀ y : S1x64.Idx, (y 1).val < 16 * u + 16 → v' y = val m c (y 1).val⌝ ∗ owns (c : Thread nD τ) vM fullShare v')
            ∗ inFlight m c (16 * u + 16)
            ∗ owns (c : Thread nD τ) rM fullShare (VecWindow.put r ![0, 512 * p.val] S1x512.size
                (k0_pay13 q h0 (sc ix11) wih whh (half bih 0 p) (half bhh 0 p)))) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  have h8 : 8 ≤ (i 0).val := by omega
  have ob : k0_off5 i = ![0, 512 * p.val] := off_half i 0 h8 p hpar rfl
  simp only [cc0__body_eq_skeleton]; unfold cc0__body_skel
  unfold ins owns
  iintro ⟨⟨⟨%f1, %e1, H1⟩, ⟨%f2, %e2, H2⟩, ⟨%f3, %e3, H3⟩, ⟨%f5, %e5, H5⟩, ⟨%f6, %e6, H6⟩, ⟨%f7, %e7, H7⟩, %f8, %e8, H8⟩, ⟨%fa, %ea, Ha⟩, ⟨%fv, %ev, Hv⟩, Hf, ⟨%fr, %er, Hr⟩, Hk⟩
  sl_exec
  sl_for (searchInv m c u) $$ [Hf]
  · intro k acc
    exact search_step m c i arg1 harg1 arg2 harg2 arg3 harg3 arg4 harg4 arg5 harg5 arg6 harg6 arg7 harg7 arg8 harg8 arg9 harg9 arg10 harg10
      arg12 harg12 arg13 harg13 u hu hi hp h2 k acc
  · unfold searchInv
    isplitr
    · ipureintro
      rw [View.readAt_full, View.readAt_full, ea, ev]
      exact ⟨rfl, hv⟩
    iexact Hf
  iintro %acc HL
  unfold searchInv
  icases HL with ⟨%hacc, Hf⟩
  obtain ⟨hacc1, hacc2⟩ := hacc
  sl_exec
  sl_step
  iapply Hk
  isplitl [H1 H2 H3 H5 H6 H7 H8]
  · iapply (ins_back c arg1 arg2 arg3 arg5 arg6 arg7 arg8 sc q h0 wih whh bih bhh f1 f2 f3 f5 f6 f7 f8 e1 e2 e3 e5 e6 e7 e8)
    sl_close
  isplitl [Ha]
  · iapply (owns_intro c aM _); iexists _; isplitl [Ha]; · iexact Ha
    ipureintro
    exact (View.read_writes_full aM.view fa _ _ []).trans ((shapeCast_id _ _).trans hacc1)
  isplitl [Hv]
  · iexists acc.2
    isplitr; · ipureintro; exact hacc2
    iapply (owns_intro c vM _); iexists _; isplitl [Hv]; · iexact Hv
    ipureintro
    exact (View.read_writes_full vM.view fv _ _ []).trans (shapeCast_id _ _)
  isplitl [Hf]; · iexact Hf
  iapply (owns_intro c rM _); iexists _; isplitl [Hr]; · iexact Hr
  ipureintro
  refine (View.read_writes_cons_put rM.view fr _ _ [] (off_half i 0 h8 p hpar rfl)).trans ?_
  rw [View.readAt_full, View.readAt_full, View.readAt_full, View.readAt_full, e2, e3, e5, e6, View.writes_nil, er,
    readAt_half arg7.view f7 bih e7 0 p _ ob, readAt_half arg8.view f8 bhh e8 0 p _ ob]
  unfold run_reset.sl.r
  rw [readAt_one arg1.view f1 sc e1]

/-- A searching point that computes half `p` of the update gate. -/
theorem run_update (u : ℕ) (hu : u < 4) (hi : (i 0).val = 8 + u) (p : Fin 2) (hpar : (i 0).val % 2 = p.val)
    (hp : ∀ n, n < 64 → (pick m c n).toNat < 4096)
    (h1 : ¬ k0_cond1 i = 1#1) (h2 : k0_cond2 i = 1#1) (h3 : ¬ k0_cond3 i = 1#1) (h4 : k0_cond4 i = 1#1)
    (h5 : ¬ k0_cond5 i = 1#1) (h6 : k0_cond6 i = 1#1) (h7 : ¬ k0_cond7 i = 1#1)
    (sc : Vec F S1x1 .f32) (q : Vec F S1x2048 .f32) (h0 : Vec F S1x1024 .f32) (wih : Vec F S512x4096 .f32) (whh : Vec F S512x1024 .f32)
    (bih bhh : Vec F S3x1024 .f32) (v : Vec F S1x64 .f32) (hv : ∀ y : S1x64.Idx, (y 1).val < 16 * u → v y = val m c (y 1).val)
    (r : Vec F S1x1024 .f32) (K : PUnit → sProp 𝕄) :
    iprop(ins c arg1 arg2 arg3 arg5 arg6 arg7 arg8 sc q h0 wih whh bih bhh
        ∗ owns (c : Thread nD τ) aM fullShare (aRound m c (16 * u)) ∗ owns (c : Thread nD τ) vM fullShare v
        ∗ inFlight m c (16 * u) ∗ owns (c : Thread nD τ) zM fullShare r
        ∗ (iprop(ins c arg1 arg2 arg3 arg5 arg6 arg7 arg8 sc q h0 wih whh bih bhh
            ∗ owns (c : Thread nD τ) aM fullShare (aRound m c (16 * u + 16))
            ∗ (∃ v' : Vec F S1x64 .f32, ⌜∀ y : S1x64.Idx, (y 1).val < 16 * u + 16 → v' y = val m c (y 1).val⌝ ∗ owns (c : Thread nD τ) vM fullShare v')
            ∗ inFlight m c (16 * u + 16)
            ∗ owns (c : Thread nD τ) zM fullShare (VecWindow.put r ![0, 512 * p.val] S1x512.size
                (k0_pay14 q h0 (sc ix11) wih whh (half bih 1 p) (half bhh 1 p)))) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  have h8 : 8 ≤ (i 0).val := by omega
  have ob : k0_off7 i = ![1, 512 * p.val] := off_half i 1 h8 p hpar rfl
  simp only [cc0__body_eq_skeleton]; unfold cc0__body_skel
  unfold ins owns
  iintro ⟨⟨⟨%f1, %e1, H1⟩, ⟨%f2, %e2, H2⟩, ⟨%f3, %e3, H3⟩, ⟨%f5, %e5, H5⟩, ⟨%f6, %e6, H6⟩, ⟨%f7, %e7, H7⟩, %f8, %e8, H8⟩, ⟨%fa, %ea, Ha⟩, ⟨%fv, %ev, Hv⟩, Hf, ⟨%fr, %er, Hr⟩, Hk⟩
  sl_exec
  sl_for (searchInv m c u) $$ [Hf]
  · intro k acc
    exact search_step m c i arg1 harg1 arg2 harg2 arg3 harg3 arg4 harg4 arg5 harg5 arg6 harg6 arg7 harg7 arg8 harg8 arg9 harg9 arg10 harg10
      arg12 harg12 arg13 harg13 u hu hi hp h2 k acc
  · unfold searchInv
    isplitr
    · ipureintro
      rw [View.readAt_full, View.readAt_full, ea, ev]
      exact ⟨rfl, hv⟩
    iexact Hf
  iintro %acc HL
  unfold searchInv
  icases HL with ⟨%hacc, Hf⟩
  obtain ⟨hacc1, hacc2⟩ := hacc
  sl_exec
  sl_step
  iapply Hk
  isplitl [H1 H2 H3 H5 H6 H7 H8]
  · iapply (ins_back c arg1 arg2 arg3 arg5 arg6 arg7 arg8 sc q h0 wih whh bih bhh f1 f2 f3 f5 f6 f7 f8 e1 e2 e3 e5 e6 e7 e8)
    sl_close
  isplitl [Ha]
  · iapply (owns_intro c aM _); iexists _; isplitl [Ha]; · iexact Ha
    ipureintro
    exact (View.read_writes_full aM.view fa _ _ []).trans ((shapeCast_id _ _).trans hacc1)
  isplitl [Hv]
  · iexists acc.2
    isplitr; · ipureintro; exact hacc2
    iapply (owns_intro c vM _); iexists _; isplitl [Hv]; · iexact Hv
    ipureintro
    exact (View.read_writes_full vM.view fv _ _ []).trans (shapeCast_id _ _)
  isplitl [Hf]; · iexact Hf
  iapply (owns_intro c zM _); iexists _; isplitl [Hr]; · iexact Hr
  ipureintro
  refine (View.read_writes_cons_put zM.view fr _ _ [] (off_half i 0 h8 p hpar rfl)).trans ?_
  rw [View.readAt_full, View.readAt_full, View.readAt_full, View.readAt_full, e2, e3, e5, e6, View.writes_nil, er,
    readAt_half arg7.view f7 bih e7 1 p _ ob, readAt_half arg8.view f8 bhh e8 1 p _ ob]
  unfold run_update.sl.r
  rw [readAt_one arg1.view f1 sc e1]

/-- The gathered rows held, as a memref's. -/
theorem gathered_owns : (gM.view.loc (c : Thread nD τ) ↦{fullShare} gathered m c : sProp 𝕄) ⊢ owns (c : Thread nD τ) gM fullShare (gathered m c) :=
  Entails.of_eq (owns_whole (c : Thread nD τ) cc0_scratch2 fullShare (gathered m c)).symm

/-- The waits done: every arrival in hand, the semaphore at zero. -/
theorem drained : drainInv m c (Scf.trips k0_t2_loop.lb k0_t2_loop.ub k0_t2_loop.st)
    ⊢ (iprop(bigSep Finset.univ (delivery m c) ∗ semVal ((c : Thread nD τ), SemLoc.dma 15) 0 ∗ ∃ W, owes (c : Thread nD τ) 0 W) : sProp 𝕄) := by
  have e : Scf.trips k0_t2_loop.lb k0_t2_loop.ub k0_t2_loop.st = 64 := trips2
  unfold drainInv
  rw [e, if_neg (by decide)]

/-- The point of the waits and the prediction, and of half `p` of the new hidden state. -/
theorem run_pred (h8 : 12 ≤ (i 0).val) (p : Fin 2) (hpar : (i 0).val % 2 = p.val)
    (h1 : ¬ k0_cond1 i = 1#1) (h2 : ¬ k0_cond2 i = 1#1) (h3 : k0_cond3 i = 1#1) (h4 : k0_cond4 i = 1#1)
    (h5 : ¬ k0_cond5 i = 1#1) (h6 : ¬ k0_cond6 i = 1#1) (h7 : k0_cond7 i = 1#1)
    (sc : Vec F S1x1 .f32) (q : Vec F S1x2048 .f32) (h0 : Vec F S1x1024 .f32) (wih : Vec F S512x4096 .f32) (whh : Vec F S512x1024 .f32)
    (bih bhh : Vec F S3x1024 .f32)
    (wsc : Vec F S1x3072 .f32) (bsc o : Vec F S1x1 .f32)
    (r z hn : Vec F S1x1024 .f32) (K : PUnit → sProp 𝕄) :
    iprop(ins c arg1 arg2 arg3 arg5 arg6 arg7 arg8 sc q h0 wih whh bih bhh
        ∗ owns (c : Thread nD τ) arg9 fullShare wsc ∗ owns (c : Thread nD τ) arg10 fullShare bsc ∗ owns (c : Thread nD τ) arg12 fullShare o
        ∗ owns (c : Thread nD τ) vM fullShare (vals m c) ∗ inFlight m c 64 ∗ (∃ W, owes (c : Thread nD τ) 0 W)
        ∗ owns (c : Thread nD τ) rM fullShare r ∗ owns (c : Thread nD τ) zM fullShare z ∗ owns (c : Thread nD τ) arg13 fullShare hn
        ∗ (iprop(ins c arg1 arg2 arg3 arg5 arg6 arg7 arg8 sc q h0 wih whh bih bhh
            ∗ owns (c : Thread nD τ) arg9 fullShare wsc ∗ owns (c : Thread nD τ) arg10 fullShare bsc
            ∗ owns (c : Thread nD τ) arg12 fullShare (fun _ => k0_pay10 q (vals m c) (gathered m c) wsc (bsc ix11))
            ∗ owns (c : Thread nD τ) vM fullShare (vals m c)
            ∗ (semVal ((c : Thread nD τ), SemLoc.dma 15) 0 ∗ owns (c : Thread nD τ) gM fullShare (gathered m c)
                ∗ (hM.view.loc (c : Thread nD τ) ↦{fullShare} hsA m c))
            ∗ (∃ W, owes (c : Thread nD τ) 0 W)
            ∗ owns (c : Thread nD τ) rM fullShare r ∗ owns (c : Thread nD τ) zM fullShare z
            ∗ owns (c : Thread nD τ) arg13 fullShare (VecWindow.put hn ![0, 512 * p.val] S1x512.size
                (k0_pay15 q h0 (sc ix11) wih whh (half bih 2 p) (half bhh 2 p) (half (n := 1) r 0 p) (half (n := 1) z 0 p) (half (n := 1) h0 0 p)))) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  have h8' : 8 ≤ (i 0).val := by omega
  have ob : k0_off9 i = ![2, 512 * p.val] := off_half i 2 h8' p hpar rfl
  have oh : k0_off10 i = ![0, 512 * p.val] := off_half i 0 h8' p hpar rfl
  simp only [cc0__body_eq_skeleton]; unfold cc0__body_skel
  unfold ins owns
  iintro ⟨⟨⟨%f1, %e1, H1⟩, ⟨%f2, %e2, H2⟩, ⟨%f3, %e3, H3⟩, ⟨%f5, %e5, H5⟩, ⟨%f6, %e6, H6⟩, ⟨%f7, %e7, H7⟩, %f8, %e8, H8⟩, ⟨%f9, %e9, H9⟩, ⟨%f10, %e10, H10⟩, ⟨%f12, %e12, H12⟩, ⟨%fv, %ev, Hv⟩, Hf, HO, ⟨%fr, %er, Hr⟩, ⟨%fz, %ez, Hz⟩, ⟨%fn, %en, Hn⟩, Hk⟩
  ihave Hf' := (inFlight_all m c) $$ Hf
  icases Hf' with ⟨HB, Hl, Hr0⟩
  sl_exec
  sl_for (fun k _ => drainInv m c k) $$ [HB HO]
  · intro k acc
    exact drain_step m c i arg1 harg1 arg2 harg2 arg3 harg3 arg4 harg4 arg5 harg5 arg6 harg6 arg7 harg7 arg8 harg8 arg9 harg9 arg10 harg10
      arg12 harg12 arg13 harg13 h3 k acc
  · unfold drainInv
    rw [if_pos (by decide), Nat.zero_mul]
    isplitl [HB]; · iexact HB
    iexact HO
  iintro %acc HL
  ihave HL' := (drained m c) $$ HL
  icases HL' with ⟨HD, HS, HO⟩
  ihave Hd := (delivered m c) $$ [HD Hl Hr0]
  · isplitl [HD]; · iexact HD
    isplitl [Hl]; · iexact Hl
    iexact Hr0
  icases Hd with ⟨Hg0, Hh⟩
  ihave Hg1 := (gathered_owns m c) $$ Hg0
  unfold owns
  icases Hg1 with ⟨%fg, %eg, Hg⟩
  sl_exec
  sl_step
  iapply Hk
  isplitl [H1 H2 H3 H5 H6 H7 H8]
  · iapply (ins_back c arg1 arg2 arg3 arg5 arg6 arg7 arg8 sc q h0 wih whh bih bhh f1 f2 f3 f5 f6 f7 f8 e1 e2 e3 e5 e6 e7 e8)
    sl_close
  isplitl [H9]
  · iapply (owns_intro c arg9 _); iexists _; isplitl [H9]; · iexact H9
    ipureintro; exact e9
  isplitl [H10]
  · iapply (owns_intro c arg10 _); iexists _; isplitl [H10]; · iexact H10
    ipureintro; exact e10
  isplitl [H12]
  · iapply (owns_intro c arg12 _); iexists _; isplitl [H12]; · iexact H12
    ipureintro
    refine (View.read_writes_full arg12.view f12 _ _ []).trans ?_
    unfold run_pred.sl.r
    rw [View.readAt_full, View.readAt_full, View.readAt_full, View.readAt_full, e2, ev, eg, e9, readAt_one arg10.view f10 bsc e10]
    rfl
  isplitl [Hv]
  · iapply (owns_intro c vM _); iexists _; isplitl [Hv]; · iexact Hv
    ipureintro; exact ev
  isplitl [HS Hg Hh]
  · isplitl [HS]; · iexact HS
    isplitl [Hg]
    · iapply (owns_intro c gM _); iexists _; isplitl [Hg]; · iexact Hg
      ipureintro; exact eg
    iexact Hh
  isplitl [HO]; · iexact HO
  isplitl [Hr]
  · iapply (owns_intro c rM _); iexists _; isplitl [Hr]; · iexact Hr
    ipureintro; exact er
  isplitl [Hz]
  · iapply (owns_intro c zM _); iexists _; isplitl [Hz]; · iexact Hz
    ipureintro; exact ez
  iapply (owns_intro c arg13 _); iexists _; isplitl [Hn]; · iexact Hn
  ipureintro
  refine (View.read_writes_cons_put arg13.view fn _ _ [] oh).trans ?_
  rw [View.readAt_full, View.readAt_full, View.readAt_full, View.readAt_full, e2, e3, e5, e6, View.writes_nil, en,
    readAt_half arg7.view f7 bih e7 2 p _ ob, readAt_half arg8.view f8 bhh e8 2 p _ ob,
    readAt_half (n := 1) rM.view fr r er 0 p _ oh, readAt_half (n := 1) zM.view fz z ez 0 p _ oh, readAt_half (n := 1) arg3.view f3 h0 e3 0 p _ oh]
  unfold run_pred.sl.r_2
  rw [readAt_one arg1.view f1 sc e1]

/-- The last point: half `p` of the new hidden state. -/
theorem run_last (h8 : 12 ≤ (i 0).val) (p : Fin 2) (hpar : (i 0).val % 2 = p.val)
    (h1 : ¬ k0_cond1 i = 1#1) (h2 : ¬ k0_cond2 i = 1#1) (h3 : ¬ k0_cond3 i = 1#1) (h4 : k0_cond4 i = 1#1)
    (h5 : ¬ k0_cond5 i = 1#1) (h6 : ¬ k0_cond6 i = 1#1) (h7 : k0_cond7 i = 1#1)
    (sc : Vec F S1x1 .f32) (q : Vec F S1x2048 .f32) (h0 : Vec F S1x1024 .f32) (wih : Vec F S512x4096 .f32) (whh : Vec F S512x1024 .f32)
    (bih bhh : Vec F S3x1024 .f32)
    (r z hn : Vec F S1x1024 .f32) (K : PUnit → sProp 𝕄) :
    iprop(ins c arg1 arg2 arg3 arg5 arg6 arg7 arg8 sc q h0 wih whh bih bhh
        ∗ owns (c : Thread nD τ) rM fullShare r ∗ owns (c : Thread nD τ) zM fullShare z ∗ owns (c : Thread nD τ) arg13 fullShare hn
        ∗ (iprop(ins c arg1 arg2 arg3 arg5 arg6 arg7 arg8 sc q h0 wih whh bih bhh
            ∗ owns (c : Thread nD τ) rM fullShare r ∗ owns (c : Thread nD τ) zM fullShare z
            ∗ owns (c : Thread nD τ) arg13 fullShare (VecWindow.put hn ![0, 512 * p.val] S1x512.size
                (k0_pay15 q h0 (sc ix11) wih whh (half bih 2 p) (half bhh 2 p) (half (n := 1) r 0 p) (half (n := 1) z 0 p) (half (n := 1) h0 0 p)))) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  have h8' : 8 ≤ (i 0).val := by omega
  have ob : k0_off9 i = ![2, 512 * p.val] := off_half i 2 h8' p hpar rfl
  have oh : k0_off10 i = ![0, 512 * p.val] := off_half i 0 h8' p hpar rfl
  simp only [cc0__body_eq_skeleton]; unfold cc0__body_skel
  unfold ins owns
  iintro ⟨⟨⟨%f1, %e1, H1⟩, ⟨%f2, %e2, H2⟩, ⟨%f3, %e3, H3⟩, ⟨%f5, %e5, H5⟩, ⟨%f6, %e6, H6⟩, ⟨%f7, %e7, H7⟩, %f8, %e8, H8⟩, ⟨%fr, %er, Hr⟩, ⟨%fz, %ez, Hz⟩, ⟨%fn, %en, Hn⟩, Hk⟩
  sl_exec
  sl_step
  iapply Hk
  isplitl [H1 H2 H3 H5 H6 H7 H8]
  · iapply (ins_back c arg1 arg2 arg3 arg5 arg6 arg7 arg8 sc q h0 wih whh bih bhh f1 f2 f3 f5 f6 f7 f8 e1 e2 e3 e5 e6 e7 e8)
    sl_close
  isplitl [Hr]
  · iapply (owns_intro c rM _); iexists _; isplitl [Hr]; · iexact Hr
    ipureintro; exact er
  isplitl [Hz]
  · iapply (owns_intro c zM _); iexists _; isplitl [Hz]; · iexact Hz
    ipureintro; exact ez
  iapply (owns_intro c arg13 _); iexists _; isplitl [Hn]; · iexact Hn
  ipureintro
  refine (View.read_writes_cons_put arg13.view fn _ _ [] oh).trans ?_
  rw [View.readAt_full, View.readAt_full, View.readAt_full, View.readAt_full, e2, e3, e5, e6, View.writes_nil, en,
    readAt_half arg7.view f7 bih e7 2 p _ ob, readAt_half arg8.view f8 bhh e8 2 p _ ob,
    readAt_half (n := 1) rM.view fr r er 0 p _ oh, readAt_half (n := 1) zM.view fz z ez 0 p _ oh, readAt_half (n := 1) arg3.view f3 h0 e3 0 p _ oh]
  unfold run_last.sl.r
  rw [readAt_one arg1.view f1 sc e1]

end Points

end Cert.KernelIdeal.Hand
-- ==== Proof.Steps.lean ====
/-
  What the scratch buffers, the transfers and the two results' buffers hold between grid points, and that each point takes
  it one point on: the scores fill row by row, the search runs 16 rounds at each of four points while its row transfers
  fly, the two gates fill half by half, then the waits and the prediction, and the new hidden state half by half.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which branch a point takes -/

theorem cond1_iff : ∀ i : grid0.Coords, k0_cond1 i = 1#1 ↔ (i 0).val < 8 := by decide
theorem cond2_iff : ∀ i : grid0.Coords, k0_cond2 i = 1#1 ↔ 8 ≤ (i 0).val ∧ (i 0).val < 12 := by decide
theorem cond3_iff : ∀ i : grid0.Coords, k0_cond3 i = 1#1 ↔ (i 0).val = 12 := by decide
theorem cond4_iff : ∀ i : grid0.Coords, k0_cond4 i = 1#1 ↔ 8 ≤ (i 0).val := by decide
theorem cond5_iff : ∀ i : grid0.Coords, k0_cond5 i = 1#1 ↔ (i 0).val < 10 := by decide
theorem cond6_iff : ∀ i : grid0.Coords, k0_cond6 i = 1#1 ↔ 10 ≤ (i 0).val ∧ (i 0).val < 12 := by decide
theorem cond7_iff : ∀ i : grid0.Coords, k0_cond7 i = 1#1 ↔ 12 ≤ (i 0).val := by decide

theorem off1_eq : ∀ i : grid0.Coords, (i 0).val < 8 → k0_off1 i = ![(i 0).val, 0] := fun i h => by
  have e : ∀ s : Fin 14, s.val < 8 → (Scalar.indexCast (BitVec.ofNat 32 s.val)).toNat = s.val := by decide
  have e' := e (i 0) h
  funext a
  fin_cases a
  · exact e'
  · rfl

/-! ## Halves put into a row -/

/-- The half just put reads back as the payload's columns; the others stay. -/
theorem put_half (x : Vec F S1x1024 .f32) (p : Fin 2) (w : Vec F S1x512 .f32) (y : S1x1024.Idx) :
    VecWindow.put x ![0, 512 * p.val] S1x512.size w y
      = if h : 512 * p.val ≤ (y 1).val ∧ (y 1).val < 512 * p.val + 512 then w (ValueIdx.ix2 (0 : Fin 1) (⟨(y 1).val - 512 * p.val, by omega⟩ : Fin 512)) else x y := by
  have h0 : (y 0).val = 0 := Nat.lt_one_iff.mp (y 0).isLt
  unfold VecWindow.put
  by_cases h : 512 * p.val ≤ (y 1).val ∧ (y 1).val < 512 * p.val + 512
  · rw [dif_pos h, dif_pos (fun a => by
      fin_cases a
      · exact ⟨Nat.zero_le _, by show (y 0).val < 0 + 1; omega⟩
      · exact h)]
    refine congrArg w (funext fun a => Fin.ext ?_)
    fin_cases a
    · show (y 0).val - 0 = 0; omega
    · rfl
  · rw [dif_neg h, dif_neg (fun ha => h (ha 1))]

/-- A row whose first `512·p` columns are those of two halves joined: with half `p` put, the first `512·(p+1)` are. -/
theorem put_join (x : Vec F S1x1024 .f32) (p : Fin 2) (w : Fin 2 → Vec F S1x512 .f32) (hx : ∀ y : S1x1024.Idx, (y 1).val < 512 * p.val → x y = join w y)
    (y : S1x1024.Idx) (hy : (y 1).val < 512 * (p.val + 1)) : VecWindow.put x ![0, 512 * p.val] S1x512.size (w p) y = join w y := by
  rw [put_half]
  split
  · next h =>
    have hd : (y 1).val / 512 = p.val := by omega
    have hm : (y 1).val % 512 = (y 1).val - 512 * p.val := by omega
    unfold join
    have e : (⟨(y 1).val / 512, by have : (y 1).val < 1024 := (y 1).isLt; omega⟩ : Fin 2) = p := Fin.ext hd
    rw [e]
    exact congrArg (fun k : Fin 512 => w p (ValueIdx.ix2 (0 : Fin 1) k)) (Fin.ext hm.symm)
  · next h => exact hx y (by omega)

/-- Half `p` of a row that is two halves joined. -/
theorem half_join (w : Fin 2 → Vec F S1x512 .f32) (p : Fin 2) : half (n := 1) (join w) 0 p = w p := by
  funext y
  have h1 : (y 1).val < 512 := (y 1).isLt
  have h0 : (y 0).val = 0 := Nat.lt_one_iff.mp (y 0).isLt
  have e : (⟨(512 * p.val + (y 1).val) / 512, by omega⟩ : Fin 2) = p := Fin.ext (show (512 * p.val + (y 1).val) / 512 = p.val by omega)
  show w (⟨(512 * p.val + (y 1).val) / 512, _⟩ : Fin 2) (ValueIdx.ix2 (0 : Fin 1) (⟨(512 * p.val + (y 1).val) % 512, _⟩ : Fin 512)) = w p y
  rw [e]
  refine congrArg (w p) (funext fun a => Fin.ext ?_)
  fin_cases a
  · exact h0.symm
  · show (512 * p.val + (y 1).val) % 512 = (y 1).val; omega

variable (m : (ℓ : Loc nD τ sig) → Buf (Elt F) ℓ) (c : Dev nD)

theorem point_lt (b : ℕ) (hb : b ≤ 12) (p : Fin 2) : b + p.val < grid0.N := by rw [N_0]; omega

/-! ## What is held before point `n` -/

/-- The scores before point `n`: rows below `n`, after the rounds run so far. -/
def aRel (n : ℕ) (a : Vec F S8x512 .f32) : Prop := ∀ y : S8x512.Idx, (y 0).val < n → a y = aRound m c (16 * (n - 8)) y
/-- The maxima found before point `n`. -/
def vRel (n : ℕ) (v : Vec F S1x64 .f32) : Prop := ∀ y : S1x64.Idx, (y 1).val < 16 * (n - 8) → v y = val m c (y 1).val
/-- The reset gate before point `n`. -/
def rRel (n : ℕ) (r : Vec F S1x1024 .f32) : Prop := ∀ y : S1x1024.Idx, (y 1).val < 512 * (n - 8) → r y = join (rHalf m c) y
/-- The update gate before point `n`. -/
def zRel (n : ℕ) (z : Vec F S1x1024 .f32) : Prop := ∀ y : S1x1024.Idx, (y 1).val < 512 * (n - 10) → z y = join (zHalf m c) y
/-- The prediction's buffer before point `n`. -/
def pRel (n : ℕ) (x : Vec F S1x1 .f32) : Prop := 13 ≤ n → x = fun _ => pred m c ⟨12, by rw [N_0]; decide⟩
/-- The new hidden state's buffer before point `n`. -/
def hRel (n : ℕ) (x : Vec F S1x1024 .f32) : Prop := ∀ y : S1x1024.Idx, (y 1).val < 512 * (n - 12) → x y = hNew m c y

/-- No transfer in flight: the semaphore at zero, the scratch rows and the hidden states held. -/
def resting : sProp 𝕄 :=
  iprop(semVal ((c : Thread nD τ), SemLoc.dma 15) 0 ∗ (∃ g, owns (c : Thread nD τ) gM fullShare g)
    ∗ (hM.view.loc (c : Thread nD τ) ↦{fullShare} hsA m c))

/-- The row transfers before point `n`. -/
def rowsAt (n : ℕ) : sProp 𝕄 := if 8 < n ∧ n < 13 then inFlight m c (16 * (n - 8)) else resting m c

/-- All a point finds and leaves beside the windows. -/
def keeps (n : ℕ) : sProp 𝕄 :=
  iprop((∃ a, ⌜n < 13 → aRel m c n a⌝ ∗ owns (c : Thread nD τ) aM fullShare a) ∗ (∃ v, ⌜n < 13 → vRel m c n v⌝ ∗ owns (c : Thread nD τ) vM fullShare v)
    ∗ (∃ r, ⌜rRel m c n r⌝ ∗ owns (c : Thread nD τ) rM fullShare r) ∗ (∃ z, ⌜zRel m c n z⌝ ∗ owns (c : Thread nD τ) zM fullShare z)
    ∗ rowsAt m c n)

theorem rows_whole (g : Vec F S64x1024 .f32) : (owns (c : Thread nD τ) gM fullShare g : sProp 𝕄) ⊢ (gM.view.loc (c : Thread nD τ) ↦{fullShare} g) :=
  Entails.of_eq (owns_whole (c : Thread nD τ) cc0_scratch2 fullShare g)

theorem resting_start {E : Set ℕ} : resting m c ⊢ (iprop(|={E}=> inFlight m c 0) : sProp 𝕄) := by
  unfold resting
  iintro ⟨Hq, ⟨%g, Hg⟩, Hh⟩
  ihave Hg' := (rows_whole c g) $$ Hg
  iapply (inFlight_start m c g)
  isplitl [Hq]; · iexact Hq
  isplitl [Hg']; · iexact Hg'
  iexact Hh

/-- The rows' transfers at a point of the search, the first wave's start included. -/
theorem rows_search (n : ℕ) (h8 : 8 ≤ n) (h12 : n < 13) {E : Set ℕ} : rowsAt m c n ⊢ (iprop(|={E}=> inFlight m c (16 * (n - 8))) : sProp 𝕄) := by
  unfold rowsAt
  rcases Nat.eq_or_lt_of_le h8 with h | h
  · subst h
    rw [if_neg (by omega)]
    exact resting_start m c
  · rw [if_pos ⟨h, h12⟩]
    exact fupd_intro

section Points

variable (t : Fin grid0.N)

variable (i : grid0.Coords) (arg1 : Memref sig .tc .smem S1x1 .f32) (harg1 : arg1.IsWhole) (arg2 : Memref sig .tc .vmem S1x2048 .f32) (harg2 : arg2.IsWhole) (arg3 : Memref sig .tc .vmem S1x1024 .f32) (harg3 : arg3.IsWhole) (arg4 : Memref sig .tc .vmem S512x2048 .f32) (harg4 : arg4.IsWhole) (arg5 : Memref sig .tc .vmem S512x4096 .f32) (harg5 : arg5.IsWhole) (arg6 : Memref sig .tc .vmem S512x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x3072 .f32) (harg9 : arg9.IsWhole) (arg10 : Memref sig .tc .smem S1x1 .f32) (harg10 : arg10.IsWhole) (arg12 : Memref sig .tc .smem S1x1 .f32) (harg12 : arg12.IsWhole) (arg13 : Memref sig .tc .vmem S1x1024 .f32) (harg13 : arg13.IsWhole)

/-- The ten inputs' blocks of point `t`. -/
def insAll (arg1 : Memref sig .tc .smem S1x1 .f32) (arg2 : Memref sig .tc .vmem S1x2048 .f32) (arg3 : Memref sig .tc .vmem S1x1024 .f32)
    (arg4 : Memref sig .tc .vmem S512x2048 .f32) (arg5 : Memref sig .tc .vmem S512x4096 .f32) (arg6 : Memref sig .tc .vmem S512x1024 .f32)
    (arg7 arg8 : Memref sig .tc .vmem S3x1024 .f32) (arg9 : Memref sig .tc .vmem S1x3072 .f32) (arg10 : Memref sig .tc .smem S1x1 .f32) : sProp 𝕄 :=
  iprop(ins c arg1 arg2 arg3 arg5 arg6 arg7 arg8 (scoreB m c t) (qB m c t) (h0B m c t) (wihB m c t) (whhB m c t) (bihB m c t) (bhhB m c t)
    ∗ owns (c : Thread nD τ) arg4 fullShare (questB m c t) ∗ owns (c : Thread nD τ) arg9 fullShare (wscB m c t)
    ∗ owns (c : Thread nD τ) arg10 fullShare (bscB m c t))

/-- What a point is handed and what it gives back. -/
def pointAt (n : ℕ) (arg1 : Memref sig .tc .smem S1x1 .f32) (arg2 : Memref sig .tc .vmem S1x2048 .f32) (arg3 : Memref sig .tc .vmem S1x1024 .f32)
    (arg4 : Memref sig .tc .vmem S512x2048 .f32) (arg5 : Memref sig .tc .vmem S512x4096 .f32) (arg6 : Memref sig .tc .vmem S512x1024 .f32)
    (arg7 arg8 : Memref sig .tc .vmem S3x1024 .f32) (arg9 : Memref sig .tc .vmem S1x3072 .f32) (arg10 : Memref sig .tc .smem S1x1 .f32)
    (arg12 : Memref sig .tc .smem S1x1 .f32) (arg13 : Memref sig .tc .vmem S1x1024 .f32) : sProp 𝕄 :=
  iprop(keeps m c n ∗ (∃ W, owes (c : Thread nD τ) 0 W) ∗ insAll m c t arg1 arg2 arg3 arg4 arg5 arg6 arg7 arg8 arg9 arg10
    ∗ (∃ x, ⌜pRel m c n x⌝ ∗ owns (c : Thread nD τ) arg12 fullShare x) ∗ (∃ x, ⌜hRel m c n x⌝ ∗ owns (c : Thread nD τ) arg13 fullShare x))

/-- A scoring point. -/
theorem step_score (hi : (i 0).val = t.val) (ht : t.val < 8) :
    pointAt m c t t.val arg1 arg2 arg3 arg4 arg5 arg6 arg7 arg8 arg9 arg10 arg12 arg13
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
          (fun _ => pointAt m c t (t.val + 1) arg1 arg2 arg3 arg4 arg5 arg6 arg7 arg8 arg9 arg10 arg12 arg13) := by
  unfold pointAt insAll keeps rowsAt
  rw [if_neg (by omega), if_neg (by omega)]
  iintro ⟨⟨⟨%a, %ha, Ha⟩, ⟨%v, %hv, Hv⟩, ⟨%r, %hr, Hr⟩, ⟨%z, %hz, Hz⟩, Hrows⟩, HO, ⟨⟨H1, H2, H3, H5⟩, H4, H9⟩, ⟨%x, %hx, Hx⟩, ⟨%h, %hh, Hh⟩⟩
  iapply (run_score c i arg1 harg1 arg2 harg2 arg3 harg3 arg4 harg4 arg5 harg5 arg6 harg6 arg7 harg7 arg8 harg8 arg9 harg9 arg10 harg10 arg12 harg12 arg13 harg13
    ((cond1_iff i).mpr (by omega)) (fun h => by have := (cond2_iff i).mp h; omega) (fun h => by have := (cond3_iff i).mp h; omega) (fun h => by have := (cond4_iff i).mp h; omega)
    (qB m c t) (h0B m c t) (questB m c t) a _)
  isplitl [H2]; · iexact H2
  isplitl [H3]; · iexact H3
  isplitl [H4]; · iexact H4
  isplitl [Ha]; · iexact Ha
  iintro ⟨H2, H3, H4, Ha⟩
  isplitl [Ha Hv Hr Hz Hrows]
  · isplitl [Ha]
    · iexists _; isplitr; swap; · iexact Ha
      ipureintro
      intro _ y hy
      have hy1 : (y 1).val < 512 := (y 1).isLt
      rw [off1_eq i (by omega), hi]
      have e0 : 16 * (t.val + 1 - 8) = 0 := by omega
      rw [e0]
      unfold VecWindow.put
      by_cases hyt : (y 0).val = t.val
      · rw [dif_pos (fun b => by
          fin_cases b
          · exact ⟨by show t.val ≤ (y 0).val; omega, by show (y 0).val < t.val + 1; omega⟩
          · exact ⟨Nat.zero_le _, by show (y 1).val < 0 + 512; omega⟩)]
        show _ = alphaRow m c ⟨(y 0).val, _⟩ (ValueIdx.ix2 (0 : Fin 1) (y 1 : Fin 512))
        have et : (⟨(y 0).val, by rw [hyt]; exact t.isLt⟩ : Fin grid0.N) = t := Fin.ext hyt
        rw [et]
        unfold alphaRow
        refine congrArg _ (funext fun b => Fin.ext ?_)
        fin_cases b
        · show (y 0).val - t.val = 0; omega
        · rfl
      · rw [dif_neg (fun hb => hyt (by have h1 : t.val ≤ (y 0).val := (hb 0).1; omega))]
        rw [ha (by omega) y (by omega), show 16 * (t.val - 8) = 0 by omega]
    isplitl [Hv]
    · iexists v; isplitr; swap; · iexact Hv
      ipureintro; intro _ y hy; omega
    isplitl [Hr]
    · iexists r; isplitr; swap; · iexact Hr
      ipureintro; intro y hy; omega
    isplitl [Hz]
    · iexists z; isplitr; swap; · iexact Hz
      ipureintro; intro y hy; omega
    iexact Hrows
  isplitl [HO]; · iexact HO
  isplitl [H1 H2 H3 H5 H4 H9]
  · isplitl [H1 H2 H3 H5]
    · isplitl [H1]; · iexact H1
      isplitl [H2]; · iexact H2
      isplitl [H3]; · iexact H3
      iexact H5
    isplitl [H4]; · iexact H4
    iexact H9
  isplitl [Hx]
  · iexists x; isplitr; swap; · iexact Hx
    ipureintro; intro h; omega
  iexists h; isplitr; swap; · iexact Hh
  ipureintro; intro y hy; omega

/-- What a searching point leaves in the scores, the maxima and the transfers, for the point after it. -/
theorem searched (u : ℕ) (hu : u < 4) (ht : t.val = 8 + u) :
    iprop(owns (c : Thread nD τ) aM fullShare (aRound m c (16 * u + 16))
        ∗ (∃ v' : Vec F S1x64 .f32, ⌜∀ y : S1x64.Idx, (y 1).val < 16 * u + 16 → v' y = val m c (y 1).val⌝ ∗ owns (c : Thread nD τ) vM fullShare v')
        ∗ inFlight m c (16 * u + 16))
      ⊢ (iprop((∃ a, ⌜t.val + 1 < 13 → aRel m c (t.val + 1) a⌝ ∗ owns (c : Thread nD τ) aM fullShare a)
        ∗ (∃ v, ⌜t.val + 1 < 13 → vRel m c (t.val + 1) v⌝ ∗ owns (c : Thread nD τ) vM fullShare v) ∗ rowsAt m c (t.val + 1)) : sProp 𝕄) := by
  have e : 16 * u + 16 = 16 * (t.val + 1 - 8) := by omega
  unfold rowsAt
  rw [if_pos (by omega), e]
  iintro ⟨Ha, ⟨%v, %hv, Hv⟩, Hf⟩
  isplitl [Ha]
  · iexists _; isplitr; swap; · iexact Ha
    ipureintro; intro _ y _; rfl
  isplitl [Hv]
  · iexists v; isplitr; swap; · iexact Hv
    ipureintro; exact fun _ => hv
  iexact Hf

/-- The scores are all there when the search begins. -/
theorem aRel_full (n : ℕ) (h8 : 8 ≤ n) (a : Vec F S8x512 .f32) (h : aRel m c n a) : a = aRound m c (16 * (n - 8)) :=
  funext fun y => h y (Nat.lt_of_lt_of_le (y 0).isLt h8)

/-- A searching point that fills half `p` of the reset gate. -/
theorem step_reset (hp : ∀ n, n < 64 → (pick m c n).toNat < 4096) (hi : (i 0).val = t.val) (p : Fin 2) (ht : t.val = 8 + p.val) :
    pointAt m c t t.val arg1 arg2 arg3 arg4 arg5 arg6 arg7 arg8 arg9 arg10 arg12 arg13
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
          (fun _ => pointAt m c t (t.val + 1) arg1 arg2 arg3 arg4 arg5 arg6 arg7 arg8 arg9 arg10 arg12 arg13) := by
  have et : t = ⟨8 + p.val, point_lt 8 (by decide) p⟩ := Fin.ext ht
  unfold pointAt insAll keeps
  iintro ⟨⟨⟨%a, %ha, Ha⟩, ⟨%v, %hv, Hv⟩, ⟨%r, %hr, Hr⟩, ⟨%z, %hz, Hz⟩, Hrows⟩, HO, ⟨Hins, H4⟩, ⟨%x, %hx, Hx⟩, ⟨%h, %hh, Hh⟩⟩
  have ha' := aRel_full m c t.val (by omega) a (ha (by omega))
  subst ha'
  imod (rows_search m c t.val (by omega) (by omega)) $$ Hrows with Hf
  iapply (run_reset m c i arg1 harg1 arg2 harg2 arg3 harg3 arg4 harg4 arg5 harg5 arg6 harg6 arg7 harg7 arg8 harg8 arg9 harg9 arg10 harg10 arg12 harg12 arg13 harg13
    (t.val - 8) (by omega) (by omega) p (by omega) hp
    (fun h => by have := (cond1_iff i).mp h; omega) ((cond2_iff i).mpr (by omega)) (fun h => by have := (cond3_iff i).mp h; omega) ((cond4_iff i).mpr (by omega))
    ((cond5_iff i).mpr (by omega)) (fun h => by have := (cond6_iff i).mp h; omega) (fun h => by have := (cond7_iff i).mp h; omega)
    _ _ _ _ _ _ _ v (hv (by omega)) _ _)
  isplitl [Hins]; · iexact Hins
  isplitl [Ha]; · iexact Ha
  isplitl [Hv]; · iexact Hv
  isplitl [Hf]; · iexact Hf
  isplitl [Hr]; · iexact Hr
  iintro ⟨Hins, Ha, Hv, Hf, Hr⟩
  ihave Hs := (searched m c t (t.val - 8) (by omega) (by omega)) $$ [Ha Hv Hf]
  · isplitl [Ha]; · iexact Ha
    isplitl [Hv]; · iexact Hv
    iexact Hf
  icases Hs with ⟨Ha, Hv, Hf⟩
  isplitl [Ha Hv Hr Hz Hf]
  · isplitl [Ha]; · iexact Ha
    isplitl [Hv]; · iexact Hv
    isplitl [Hr]
    · iexists _; isplitr; swap; · iexact Hr
      ipureintro
      intro y hy
      subst et
      exact put_join r p (rHalf m c) (fun y hy => hr y (by omega)) y (by have : (y 1).val < 512 * ((8 + p.val + 1) - 8) := hy; omega)
    isplitl [Hz]
    · iexists _; isplitr; swap; · iexact Hz
      ipureintro
      intro y hy; omega
    iexact Hf
  isplitl [HO]; · iexact HO
  isplitl [Hins H4]
  · isplitl [Hins]; · iexact Hins
    iexact H4
  isplitl [Hx]
  · iexists x; isplitr; swap; · iexact Hx
    ipureintro; intro h; omega
  iexists h; isplitr; swap; · iexact Hh
  ipureintro; intro y hy; omega

/-- A searching point that fills half `p` of the update gate. -/
theorem step_update (hp : ∀ n, n < 64 → (pick m c n).toNat < 4096) (hi : (i 0).val = t.val) (p : Fin 2) (ht : t.val = 10 + p.val) :
    pointAt m c t t.val arg1 arg2 arg3 arg4 arg5 arg6 arg7 arg8 arg9 arg10 arg12 arg13
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
          (fun _ => pointAt m c t (t.val + 1) arg1 arg2 arg3 arg4 arg5 arg6 arg7 arg8 arg9 arg10 arg12 arg13) := by
  have et : t = ⟨10 + p.val, point_lt 10 (by decide) p⟩ := Fin.ext ht
  unfold pointAt insAll keeps
  iintro ⟨⟨⟨%a, %ha, Ha⟩, ⟨%v, %hv, Hv⟩, ⟨%r, %hr, Hr⟩, ⟨%z, %hz, Hz⟩, Hrows⟩, HO, ⟨Hins, H4⟩, ⟨%x, %hx, Hx⟩, ⟨%h, %hh, Hh⟩⟩
  have ha' := aRel_full m c t.val (by omega) a (ha (by omega))
  subst ha'
  imod (rows_search m c t.val (by omega) (by omega)) $$ Hrows with Hf
  iapply (run_update m c i arg1 harg1 arg2 harg2 arg3 harg3 arg4 harg4 arg5 harg5 arg6 harg6 arg7 harg7 arg8 harg8 arg9 harg9 arg10 harg10 arg12 harg12 arg13 harg13
    (t.val - 8) (by omega) (by omega) p (by omega) hp
    (fun h => by have := (cond1_iff i).mp h; omega) ((cond2_iff i).mpr (by omega)) (fun h => by have := (cond3_iff i).mp h; omega) ((cond4_iff i).mpr (by omega))
    (fun h => by have := (cond5_iff i).mp h; omega) ((cond6_iff i).mpr (by omega)) (fun h => by have := (cond7_iff i).mp h; omega)
    _ _ _ _ _ _ _ v (hv (by omega)) _ _)
  isplitl [Hins]; · iexact Hins
  isplitl [Ha]; · iexact Ha
  isplitl [Hv]; · iexact Hv
  isplitl [Hf]; · iexact Hf
  isplitl [Hz]; · iexact Hz
  iintro ⟨Hins, Ha, Hv, Hf, Hz⟩
  ihave Hs := (searched m c t (t.val - 8) (by omega) (by omega)) $$ [Ha Hv Hf]
  · isplitl [Ha]; · iexact Ha
    isplitl [Hv]; · iexact Hv
    iexact Hf
  icases Hs with ⟨Ha, Hv, Hf⟩
  isplitl [Ha Hv Hr Hz Hf]
  · isplitl [Ha]; · iexact Ha
    isplitl [Hv]; · iexact Hv
    isplitl [Hr]
    · iexists _; isplitr; swap; · iexact Hr
      ipureintro
      intro y hy; exact hr y (by have : (y 1).val < 1024 := (y 1).isLt; omega)
    isplitl [Hz]
    · iexists _; isplitr; swap; · iexact Hz
      ipureintro
      intro y hy
      subst et
      exact put_join z p (zHalf m c) (fun y hy => hz y (by omega)) y (by have : (y 1).val < 512 * ((10 + p.val + 1) - 10) := hy; omega)
    iexact Hf
  isplitl [HO]; · iexact HO
  isplitl [Hins H4]
  · isplitl [Hins]; · iexact Hins
    iexact H4
  isplitl [Hx]
  · iexists x; isplitr; swap; · iexact Hx
    ipureintro; intro h; omega
  iexists h; isplitr; swap; · iexact Hh
  ipureintro; intro y hy; omega

/-- The point of the waits, the prediction and the first half of the new hidden state. -/
theorem step_pred (hi : (i 0).val = t.val) (ht : t.val = 12) :
    pointAt m c t t.val arg1 arg2 arg3 arg4 arg5 arg6 arg7 arg8 arg9 arg10 arg12 arg13
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
          (fun _ => pointAt m c t (t.val + 1) arg1 arg2 arg3 arg4 arg5 arg6 arg7 arg8 arg9 arg10 arg12 arg13) := by
  have et : t = ⟨12 + (0 : Fin 2).val, point_lt 12 (by decide) 0⟩ := Fin.ext ht
  have ef : (rowsAt m c t.val : sProp 𝕄) = inFlight m c 64 := by unfold rowsAt; rw [if_pos (by omega), show 16 * (t.val - 8) = 64 by omega]
  unfold pointAt insAll keeps
  rw [ef]
  iintro ⟨⟨⟨%a, %ha, Ha⟩, ⟨%v, %hv, Hv⟩, ⟨%r, %hr, Hr⟩, ⟨%z, %hz, Hz⟩, Hrows⟩, HO, ⟨Hins, H4, H9, H10⟩, ⟨%x, %hx, Hx⟩, ⟨%h, %hh, Hh⟩⟩
  have hv' : v = vals m c := funext fun y => hv (by omega) y (by have : (y 1).val < 64 := (y 1).isLt; omega)
  have hr' : r = join (rHalf m c) := funext fun y => hr y (by have : (y 1).val < 1024 := (y 1).isLt; omega)
  have hz' : z = join (zHalf m c) := funext fun y => hz y (by have : (y 1).val < 1024 := (y 1).isLt; omega)
  subst hv' hr' hz'
  iapply (run_pred m c i arg1 harg1 arg2 harg2 arg3 harg3 arg4 harg4 arg5 harg5 arg6 harg6 arg7 harg7 arg8 harg8 arg9 harg9 arg10 harg10 arg12 harg12 arg13 harg13
    (by omega) 0 (show (i 0).val % 2 = 0 by omega)
    (fun h => by have := (cond1_iff i).mp h; omega) (fun h => by have := (cond2_iff i).mp h; omega) ((cond3_iff i).mpr (by omega)) ((cond4_iff i).mpr (by omega))
    (fun h => by have := (cond5_iff i).mp h; omega) (fun h => by have := (cond6_iff i).mp h; omega) ((cond7_iff i).mpr (by omega))
    _ _ _ _ _ _ _ _ _ _ _ _ _ _)
  isplitl [Hins]; · iexact Hins
  isplitl [H9]; · iexact H9
  isplitl [H10]; · iexact H10
  isplitl [Hx]; · iexact Hx
  isplitl [Hv]; · iexact Hv
  isplitl [Hrows]; · iexact Hrows
  isplitl [HO]; · iexact HO
  isplitl [Hr]; · iexact Hr
  isplitl [Hz]; · iexact Hz
  isplitl [Hh]; · iexact Hh
  iintro ⟨Hins, H9, H10, Hx, Hv, ⟨Hq, Hg, Hhs⟩, HO, Hr, Hz, Hh⟩
  isplitl [Ha Hv Hr Hz Hq Hg Hhs]
  · isplitl [Ha]
    · iexists a; isplitr; swap; · iexact Ha
      ipureintro; intro h; omega
    isplitl [Hv]
    · iexists _; isplitr; swap; · iexact Hv
      ipureintro; intro h; omega
    isplitl [Hr]
    · iexists _; isplitr; swap; · iexact Hr
      ipureintro; intro y _; rfl
    isplitl [Hz]
    · iexists _; isplitr; swap; · iexact Hz
      ipureintro; intro y _; rfl
    unfold rowsAt resting
    rw [if_neg (by omega)]
    isplitl [Hq]; · iexact Hq
    isplitl [Hg]; · iexists _; iexact Hg
    iexact Hhs
  isplitl [HO]; · iexact HO
  isplitl [Hins H4 H9 H10]
  · isplitl [Hins]; · iexact Hins
    isplitl [H4]; · iexact H4
    isplitl [H9]; · iexact H9
    iexact H10
  isplitl [Hx]
  · iexists _; isplitr; swap; · iexact Hx
    ipureintro; intro _; rw [et]; rfl
  iexists _; isplitr; swap; · iexact Hh
  ipureintro
  intro y hy
  rw [half_join, half_join, et]
  refine put_join h 0 (hHalf m c) (fun y hy => hh y (by have : (y 1).val < 512 * 0 := hy; omega)) y (by rw [ht] at hy; exact hy)

/-- The last point: the second half of the new hidden state. -/
theorem step_last (hi : (i 0).val = t.val) (ht : t.val = 13) :
    pointAt m c t t.val arg1 arg2 arg3 arg4 arg5 arg6 arg7 arg8 arg9 arg10 arg12 arg13
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 (Memref.whole main_arg3) (Memref.isWhole_whole _) arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
          (fun _ => pointAt m c t (t.val + 1) arg1 arg2 arg3 arg4 arg5 arg6 arg7 arg8 arg9 arg10 arg12 arg13) := by
  have et : t = ⟨12 + (1 : Fin 2).val, point_lt 12 (by decide) 1⟩ := Fin.ext ht
  unfold pointAt insAll keeps rowsAt
  rw [if_neg (by omega), if_neg (by omega)]
  iintro ⟨⟨Ha, Hv, ⟨%r, %hr, Hr⟩, ⟨%z, %hz, Hz⟩, Hrows⟩, HO, ⟨Hins, H4⟩, ⟨%x, %hx, Hx⟩, ⟨%h, %hh, Hh⟩⟩
  have hr' : r = join (rHalf m c) := funext fun y => hr y (by have : (y 1).val < 1024 := (y 1).isLt; omega)
  have hz' : z = join (zHalf m c) := funext fun y => hz y (by have : (y 1).val < 1024 := (y 1).isLt; omega)
  subst hr' hz'
  iapply (run_last c i arg1 harg1 arg2 harg2 arg3 harg3 arg4 harg4 arg5 harg5 arg6 harg6 arg7 harg7 arg8 harg8 arg9 harg9 arg10 harg10 arg12 harg12 arg13 harg13
    (by omega) 1 (show (i 0).val % 2 = 1 by omega)
    (fun h => by have := (cond1_iff i).mp h; omega) (fun h => by have := (cond2_iff i).mp h; omega) (fun h => by have := (cond3_iff i).mp h; omega) ((cond4_iff i).mpr (by omega))
    (fun h => by have := (cond5_iff i).mp h; omega) (fun h => by have := (cond6_iff i).mp h; omega) ((cond7_iff i).mpr (by omega))
    _ _ _ _ _ _ _ _ _ _ _)
  isplitl [Hins]; · iexact Hins
  isplitl [Hr]; · iexact Hr
  isplitl [Hz]; · iexact Hz
  isplitl [Hh]; · iexact Hh
  iintro ⟨Hins, Hr, Hz, Hh⟩
  isplitl [Ha Hv Hr Hz Hrows]
  · isplitl [Ha]
    · icases Ha with ⟨%a, -, Ha⟩
      iexists a; isplitr; swap; · iexact Ha
      ipureintro; intro h; omega
    isplitl [Hv]
    · icases Hv with ⟨%v, -, Hv⟩
      iexists v; isplitr; swap; · iexact Hv
      ipureintro; intro h; omega
    isplitl [Hr]
    · iexists _; isplitr; swap; · iexact Hr
      ipureintro; intro y _; rfl
    isplitl [Hz]
    · iexists _; isplitr; swap; · iexact Hz
      ipureintro; intro y _; rfl
    iexact Hrows
  isplitl [HO]; · iexact HO
  isplitl [Hins H4]
  · isplitl [Hins]; · iexact Hins
    iexact H4
  isplitl [Hx]
  · iexists x; isplitr; swap; · iexact Hx
    ipureintro; intro _; exact hx (by omega)
  iexists _; isplitr; swap; · iexact Hh
  ipureintro
  intro y hy
  rw [half_join, half_join, et]
  refine put_join h 1 (hHalf m c) (fun y hy => hh y (by rw [ht]; exact hy)) y (by have : (y 1).val < 1024 := (y 1).isLt; exact this)

end Points

end Cert.KernelIdeal.Hand

end
-- ==== Proof.Obligation.lean ====
/-
  The body's obligation at every grid point: what the pipeline hands the body is what the point's step takes, and what the
  step gives back is what the pipeline keeps. The two results' windows are held to what is known of them after each point.
-/
module

public import proofs.«01_k».proof.Proof.Steps
public import Idealize.ShloMosaic.Lib.Pipeline.DatRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (c : Dev nD)

/-- Between points: the scratch buffers and the transfers, and the generator at some state. -/
def betweenPts (n : ℕ) : sProp 𝕄 := iprop(keeps m c n ∗ (∃ r, prngReg c r))

/-- The proof data: the inputs' blocks, and what lies between points. -/
def dat : Dat τ (Elt F) Unit ℕ (UD sig nD τ) ℕ cfg0 c where
  A w := V m c (arrRef spec0 w)
  after w t := match w with
    | ⟨10, _⟩ => fun _ => pred m c t
    | ⟨11, _⟩ => hNew m c
    | ⟨0, _⟩ => scoreB m c t
    | ⟨1, _⟩ => qB m c t
    | ⟨2, _⟩ => h0B m c t
    | ⟨3, _⟩ => questB m c t
    | ⟨4, _⟩ => wihB m c t
    | ⟨5, _⟩ => whhB m c t
    | ⟨6, _⟩ => bihB m c t
    | ⟨7, _⟩ => bhhB m c t
    | ⟨8, _⟩ => wscB m c t
    | ⟨9, _⟩ => bscB m c t
  Φ t := betweenPts m c t.val
  q _ := fullShare
  owed _ := 0

/-- The windows of the two results. -/
def fgt0 : Fin cfg0.W → Bool
  | ⟨10, _⟩ => true
  | ⟨11, _⟩ => true
  | _ => false

/-- What each result's window holds after a point. -/
def Rl0 : (w : Fin cfg0.W) → Fin cfg0.N → ((cfg0.win w).block.Idx → Elt F (cfg0.win w).elt) → Prop
  | ⟨10, _⟩ => fun t X => pRel m c (t.val + 1) X
  | ⟨11, _⟩ => fun t X => hRel m c (t.val + 1) X
  | _ => fun _ _ => True

theorem A_eq0 (w : Fin cfg0.W) : (dat m c).A w = V m c (arrRef spec0 w) := by dsimp only [dat]

theorem before0_0 (t : Fin cfg0.N) (d) : (dat m c).before 0 t d = scoreB m c t :=
  ((dat m c).before_in_eq_fetched 0 rfl (fun _ => rfl) (fun _ _ _ => rfl) (fun t => by show _ = _; rw [show (dat m c).after 0 t = iblk m c 0 t from rfl]; unfold Dat.blockOf iblk; rw [A_eq0]; try rfl) t d).trans (by unfold Dat.fetched Dat.blockOf; rw [A_eq0]; rfl)
theorem before0_1 (t : Fin cfg0.N) (d) : (dat m c).before 1 t d = qB m c t :=
  ((dat m c).before_in_eq_fetched 1 rfl (fun _ => rfl) (fun _ _ _ => rfl) (fun t => by show _ = _; rw [show (dat m c).after 1 t = iblk m c 1 t from rfl]; unfold Dat.blockOf iblk; rw [A_eq0]; try rfl) t d).trans (by unfold Dat.fetched Dat.blockOf; rw [A_eq0]; rfl)
theorem before0_2 (t : Fin cfg0.N) (d) : (dat m c).before 2 t d = h0B m c t :=
  ((dat m c).before_in_eq_fetched 2 rfl (fun _ => rfl) (fun _ _ _ => rfl) (fun t => by show _ = _; rw [show (dat m c).after 2 t = iblk m c 2 t from rfl]; unfold Dat.blockOf iblk; rw [A_eq0]; try rfl) t d).trans (by unfold Dat.fetched Dat.blockOf; rw [A_eq0]; rfl)
theorem before0_3 (t : Fin cfg0.N) (d) : (dat m c).before 3 t d = questB m c t :=
  ((dat m c).before_in_eq_fetched 3 rfl (fun _ => rfl) (fun _ _ _ => rfl) (fun t => by show _ = _; rw [show (dat m c).after 3 t = iblk m c 3 t from rfl]; unfold Dat.blockOf iblk; rw [A_eq0]; try rfl) t d).trans (by unfold Dat.fetched Dat.blockOf; rw [A_eq0]; rfl)
theorem before0_4 (t : Fin cfg0.N) (d) : (dat m c).before 4 t d = wihB m c t :=
  ((dat m c).before_in_eq_fetched 4 rfl (fun _ => rfl) (fun _ _ _ => rfl) (fun t => by show _ = _; rw [show (dat m c).after 4 t = iblk m c 4 t from rfl]; unfold Dat.blockOf iblk; rw [A_eq0]; try rfl) t d).trans (by unfold Dat.fetched Dat.blockOf; rw [A_eq0]; rfl)
theorem before0_5 (t : Fin cfg0.N) (d) : (dat m c).before 5 t d = whhB m c t :=
  ((dat m c).before_in_eq_fetched 5 rfl (fun _ => rfl) (fun _ _ _ => rfl) (fun t => by show _ = _; rw [show (dat m c).after 5 t = iblk m c 5 t from rfl]; unfold Dat.blockOf iblk; rw [A_eq0]; try rfl) t d).trans (by unfold Dat.fetched Dat.blockOf; rw [A_eq0]; rfl)
theorem before0_6 (t : Fin cfg0.N) (d) : (dat m c).before 6 t d = bihB m c t :=
  ((dat m c).before_in_eq_fetched 6 rfl (fun _ => rfl) (fun _ _ _ => rfl) (fun t => by show _ = _; rw [show (dat m c).after 6 t = iblk m c 6 t from rfl]; unfold Dat.blockOf iblk; rw [A_eq0]; try rfl) t d).trans (by unfold Dat.fetched Dat.blockOf; rw [A_eq0]; rfl)
theorem before0_7 (t : Fin cfg0.N) (d) : (dat m c).before 7 t d = bhhB m c t :=
  ((dat m c).before_in_eq_fetched 7 rfl (fun _ => rfl) (fun _ _ _ => rfl) (fun t => by show _ = _; rw [show (dat m c).after 7 t = iblk m c 7 t from rfl]; unfold Dat.blockOf iblk; rw [A_eq0]; try rfl) t d).trans (by unfold Dat.fetched Dat.blockOf; rw [A_eq0]; rfl)
theorem before0_8 (t : Fin cfg0.N) (d) : (dat m c).before 8 t d = wscB m c t :=
  ((dat m c).before_in_eq_fetched 8 rfl (fun _ => rfl) (fun _ _ _ => rfl) (fun t => by show _ = _; rw [show (dat m c).after 8 t = iblk m c 8 t from rfl]; unfold Dat.blockOf iblk; rw [A_eq0]; try rfl) t d).trans (by unfold Dat.fetched Dat.blockOf; rw [A_eq0]; rfl)
theorem before0_9 (t : Fin cfg0.N) (d) : (dat m c).before 9 t d = bscB m c t :=
  ((dat m c).before_in_eq_fetched 9 rfl (fun _ => rfl) (fun _ _ _ => rfl) (fun t => by show _ = _; rw [show (dat m c).after 9 t = iblk m c 9 t from rfl]; unfold Dat.blockOf iblk; rw [A_eq0]; try rfl) t d).trans (by unfold Dat.fetched Dat.blockOf; rw [A_eq0]; rfl)

theorem coord_val : ∀ t : Fin grid0.N, (grid0.coords t 0).val = t.val := by decide

theorem flush0_10_mid (t : Fin cfg0.N) (h : t.val < 13) : (cfg0.win 10).flush t = false := by
  have hh := (flush0_10 t).mp
  cases e : (cfg0.win 10).flush t
  · rfl
  · have := hh e; omega

theorem flush0_11_mid (t : Fin cfg0.N) (h : t.val < 13) : (cfg0.win 11).flush t = false := by
  have hh := (flush0_11 t).mp
  cases e : (cfg0.win 11).flush t
  · rfl
  · have := hh e; omega

/-- The prediction's window is found as the point before left it. -/
theorem finds_pred (t : Fin cfg0.N) (X) (h : ((dat m c).toRRel fgt0 (Rl0 m c)).Finds 10 t X) : pRel m c t.val X := by
  by_cases ht : t.val ≤ 12
  · intro h13; omega
  · have hb : t.val < 14 := t.isLt
    rcases (((dat m c).toRRel fgt0 (Rl0 m c)).finds_of_pos (w := 10) (t := t) rfl (by omega) X).mp h with hf | hl
    · rw [flush0_10_mid _ (by show t.val - 1 < 13; omega)] at hf; exact absurd hf Bool.false_ne_true
    · have := (dat m c).toRRel_leaves (w := 10) (fgt := fgt0) (Rl := Rl0 m c) rfl hl
      have e : t.val - 1 + 1 = t.val := by omega
      exact e ▸ (show pRel m c (t.val - 1 + 1) X from this)

/-- So is the new hidden state's. -/
theorem finds_hid (t : Fin cfg0.N) (X) (h : ((dat m c).toRRel fgt0 (Rl0 m c)).Finds 11 t X) : hRel m c t.val X := by
  by_cases ht : t.val ≤ 12
  · intro y hy; omega
  · have hb : t.val < 14 := t.isLt
    rcases (((dat m c).toRRel fgt0 (Rl0 m c)).finds_of_pos (w := 11) (t := t) rfl (by omega) X).mp h with hf | hl
    · rw [flush0_11_mid _ (by show t.val - 1 < 13; omega)] at hf; exact absurd hf Bool.false_ne_true
    · have := (dat m c).toRRel_leaves (w := 11) (fgt := fgt0) (Rl := Rl0 m c) rfl hl
      have e : t.val - 1 + 1 = t.val := by omega
      exact e ▸ (show hRel m c (t.val - 1 + 1) X from this)

/-- The windows' buffers and what lies between points, as one point takes them. -/
def pointOf (t : Fin cfg0.N) (n : ℕ) : sProp 𝕄 :=
  pointAt m c t n (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11))

/-- Every point takes it one point on. -/
theorem step_any (hp : ∀ n, n < 64 → (pick m c n).toNat < 4096) (t : Fin cfg0.N) :
    pointOf m c t t.val ⊢ wp frame (wpE (defs₀ (F := F)) Variants.none (c : Thread nD τ) none) Set.univ (bodyAt0 t) (fun _ => pointOf m c t (t.val + 1)) := by
  have hi := coord_val t
  have hb : t.val < 14 := t.isLt
  by_cases h8 : t.val < 8
  · exact step_score m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) hi h8
  by_cases h10 : t.val < 10
  · exact step_reset m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) hp hi ⟨t.val - 8, by omega⟩ (by show t.val = 8 + (t.val - 8); omega)
  by_cases h12 : t.val < 12
  · exact step_update m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) hp hi ⟨t.val - 10, by omega⟩ (by show t.val = 10 + (t.val - 10); omega)
  by_cases h13 : t.val < 13
  · exact step_pred m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) hi (by omega)
  · exact step_last m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) hi (by omega)

/-- What the pipeline hands the body. -/
def bodyPre (t : Fin cfg0.N) : sProp 𝕄 :=
  iprop((dat m c).Φ t.castSucc ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d))
    ∗ (∃ Y, ⌜((dat m c).toRRel fgt0 (Rl0 m c)).Finds 10 t Y⌝ ∗ owns (c : Thread nD τ) (st0_10 t) fullShare Y)
    ∗ (∃ Y, ⌜((dat m c).toRRel fgt0 (Rl0 m c)).Finds 11 t Y⌝ ∗ owns (c : Thread nD τ) (st0_11 t) fullShare Y))

/-- What it keeps after it. -/
def bodyPost (t : Fin cfg0.N) : sProp 𝕄 :=
  iprop((dat m c).Φ t.succ ∗ (dat m c).owesAt () t.succ ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ owns (c : Thread nD τ) (st0_5 t) fullShare ((dat m c).after 5 t) ∗ owns (c : Thread nD τ) (st0_6 t) fullShare ((dat m c).after 6 t) ∗ owns (c : Thread nD τ) (st0_7 t) fullShare ((dat m c).after 7 t) ∗ owns (c : Thread nD τ) (st0_8 t) fullShare ((dat m c).after 8 t) ∗ owns (c : Thread nD τ) (st0_9 t) fullShare ((dat m c).after 9 t)
    ∗ (∃ X, ⌜Rl0 m c 10 t X⌝ ∗ owns (c : Thread nD τ) (st0_10 t) fullShare X)
    ∗ (∃ X, ⌜Rl0 m c 11 t X⌝ ∗ owns (c : Thread nD τ) (st0_11 t) fullShare X))

/-- Everything but the generator. -/
theorem bodyPre_point (t : Fin cfg0.N) : bodyPre m c t ⊢ (iprop((∃ r, prngReg c r) ∗ pointOf m c t t.val) : sProp 𝕄) := by
  unfold bodyPre pointOf pointAt insAll ins
  rw [show (dat m c).Φ t.castSucc = betweenPts m c t.val from rfl]
  unfold betweenPts Dat.owesAt Pipeline.owesWithin
  rw [show (dat m c).owed t.castSucc = 0 from rfl]
  simp only [before0_0, before0_1, before0_2, before0_3, before0_4, before0_5, before0_6, before0_7, before0_8, before0_9]
  iintro ⟨⟨HK, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, HY⟩, ⟨%Z, %hZ, HZ⟩⟩
  isplitl [Hg]; · iexact Hg
  isplitl [HK]; · iexact HK
  isplitl [HW]; · iexists W; iexact HW
  isplitl [H0 H1 H2 H3 H4 H5 H6 H7 H8 H9]
  · isplitl [H0 H1 H2 H4 H5 H6 H7]
    · isplitl [H0]; · iexact H0
      isplitl [H1]; · iexact H1
      isplitl [H2]; · iexact H2
      isplitl [H4]; · iexact H4
      isplitl [H5]; · iexact H5
      isplitl [H6]; · iexact H6
      iexact H7
    · isplitl [H3]; · iexact H3
      isplitl [H8]; · iexact H8
      iexact H9
  isplitl [HY]
  · iexists Y; isplitr; · ipureintro; exact finds_pred m c t Y hY
    iexact HY
  · iexists Z; isplitr; · ipureintro; exact finds_hid m c t Z hZ
    iexact HZ

theorem point_bodyPost (t : Fin cfg0.N) : (iprop((∃ r, prngReg c r) ∗ pointOf m c t (t.val + 1)) : sProp 𝕄) ⊢ bodyPost m c t := by
  unfold bodyPost pointOf pointAt insAll ins
  rw [show (dat m c).Φ t.succ = betweenPts m c (t.val + 1) from rfl]
  unfold betweenPts Dat.owesAt Pipeline.owesWithin
  rw [show (dat m c).owed t.succ = 0 from rfl]
  iintro ⟨Hg, HK, ⟨%W, HW⟩, ⟨⟨H0, H1, H2, H4, H5, H6, H7⟩, H3, H8, H9⟩, ⟨%Y, %hY, HY⟩, ⟨%Z, %hZ, HZ⟩⟩
  isplitl [HK Hg]
  · isplitl [HK]; · iexact HK
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HY]
  · iexists Y; isplitr; · ipureintro; exact hY
    iexact HY
  · iexists Z; isplitr; · ipureintro; exact hZ
    iexact HZ

theorem sound_body (hp : ∀ n, n < 64 → (pick m c n).toNat < 4096) (t : Fin cfg0.N) :
    bodyPre m c t ⊢ wp frame (wpE (defs₀ (F := F)) Variants.none (c : Thread nD τ) none) Set.univ (bodyAt0 t) (fun _ => bodyPost m c t) := by
  refine (bodyPre_point m c t).trans ?_
  refine BIBase.Entails.trans (sep_mono .rfl (step_any m c hp t)) ?_
  refine BIBase.Entails.trans (wp_frame_l _ _ _) ?_
  exact wp_mono _ _ _ fun _ => point_bodyPost m c t

theorem defs₀_row (t : Fin cfg0.N) :
    defs₀ (F := F) .tc cfg0.body (cfg0.bodyArgs t (cfg0.slots t)) = bodyAt0 t := by
  unfold defs₀; rw [Defs.onTc_tc]

theorem body_obligation (hp : ∀ n, n < 64 → (pick m c n).toNat < 4096) :
    BodyObligationRel (dat m c) (defs₀ (F := F)) Variants.none () Set.univ fgt0 (Rl0 m c) := fun t => by
  rw [bigSep_W0, bigSep_W0, defs₀_row]
  exact triple_restated (sound_body m c hp t) rfl .rfl fun _ => .rfl

end Cert.KernelIdeal.Hand

end
-- ==== Proof.Run.lean ====
/-
  The run of the whole program, of whatever floats, when every picked position is a row: the arguments end as launched, the
  two results are the prediction and the new hidden state, and every semaphore reads zero.
-/
module

public import proofs.«01_k».proof.Proof.Around
public import proofs.«01_k».proof.Proof.Obligation
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (Pipeline.UD sig nD τ) ℕ

section
variable (m : (ℓ : Loc nD τ sig) → Buf (Elt F) ℓ) (ρ : Dev nD → PrngReg) (c : Dev nD)

/-- The proof data, relationally. -/
abbrev rdat := (dat m c).toRRel fgt0 (Rl0 m c)

theorem ownSems_eq : (ownSems0 (Ix := Unit) (Name := ℕ) (U := UD sig nD τ) (Lvl := ℕ) (Val := Elt F) (τ := τ) osem0 c : sProp 𝕄)
    = semVal ((c : Thread nD τ), SemLoc.dma 15) 0 := by
  rw [ownSems0_eq_of_list c osem0 [0] (by decide) (by decide)]; rfl

theorem H0_eq : (bigSep H0 (fun b => ((c.tc : Thread nD τ).loc b) ↦{fullShare} V m c b) : sProp 𝕄)
    = (hM.view.loc (c : Thread nD τ) ↦{fullShare} hsA m c) := by
  rw [BI.bigSep_eq_bigSepL_of_eq [main_arg3] (by decide) (by decide)]; rfl

theorem whole_in (b : Ref sig .tc) (f : Buf (Elt F) ((c : Thread nD τ).loc b)) :
    (((c : Thread nD τ).loc b) ↦{fullShare} f : sProp 𝕄) ⊢ owns (c : Thread nD τ) (Memref.whole b) fullShare f :=
  Entails.of_eq (owns_whole (c : Thread nD τ) b fullShare f).symm

theorem whole_out (b : Ref sig .tc) (f : Buf (Elt F) ((c : Thread nD τ).loc b)) :
    (owns (c : Thread nD τ) (Memref.whole b) fullShare f : sProp 𝕄) ⊢ (((c : Thread nD τ).loc b) ↦{fullShare} f) :=
  Entails.of_eq (owns_whole (c : Thread nD τ) b fullShare f)

theorem enter : (ΦD osem0 spec0 H0 (V m) c : sProp 𝕄) ⊢ (dat m c).Φ 0 := by
  rw [show (dat m c).Φ 0 = betweenPts m c 0 from rfl]
  unfold ΦD betweenPts keeps rowsAt resting
  rw [scopedRest0_eq, ownSems_eq, H0_eq, if_neg (by omega)]
  iintro ⟨⟨⟨%f0, S0⟩, ⟨%f1, S1⟩, ⟨%f2, S2⟩, ⟨%f3, S3⟩, ⟨%f4, S4⟩⟩, Hg, Hq, Hh⟩
  isplitr [Hg]
  · isplitl [S0]
    · iexists f0; isplitr; · ipureintro; exact fun _ y hy => absurd hy (by omega)
      iapply (whole_in c cc0_scratch0 f0); iexact S0
    isplitl [S1]
    · iexists f1; isplitr; · ipureintro; exact fun _ y hy => absurd hy (by omega)
      iapply (whole_in c cc0_scratch1 f1); iexact S1
    isplitl [S3]
    · iexists f3; isplitr; · ipureintro; exact fun y hy => absurd hy (by omega)
      iapply (whole_in c cc0_scratch3 f3); iexact S3
    isplitl [S4]
    · iexists f4; isplitr; · ipureintro; exact fun y hy => absurd hy (by omega)
      iapply (whole_in c cc0_scratch4 f4); iexact S4
    isplitl [Hq]; · iexact Hq
    isplitl [S2]
    · iexists f2; iapply (whole_in c cc0_scratch2 f2); iexact S2
    iexact Hh
  · iexact Hg

theorem leave : (dat m c).Φ (Fin.last cfg0.N) ⊢ (ΦD osem0 spec0 H0 (V m) c : sProp 𝕄) := by
  rw [show (dat m c).Φ (Fin.last cfg0.N) = betweenPts m c 14 from rfl]
  unfold ΦD betweenPts keeps rowsAt resting
  rw [scopedRest0_eq, ownSems_eq, H0_eq, if_neg (by omega)]
  iintro ⟨⟨⟨%f0, -, S0⟩, ⟨%f1, -, S1⟩, ⟨%f3, -, S3⟩, ⟨%f4, -, S4⟩, Hq, ⟨%f2, S2⟩, Hh⟩, Hg⟩
  isplitl [S0 S1 S2 S3 S4]
  · isplitl [S0]; · iexists f0; iapply (whole_out c cc0_scratch0 f0); iexact S0
    isplitl [S1]; · iexists f1; iapply (whole_out c cc0_scratch1 f1); iexact S1
    isplitl [S2]; · iexists f2; iapply (whole_out c cc0_scratch2 f2); iexact S2
    isplitl [S3]; · iexists f3; iapply (whole_out c cc0_scratch3 f3); iexact S3
    iexists f4; iapply (whole_out c cc0_scratch4 f4); iexact S4
  isplitl [Hg]; · iexact Hg
  isplitl [Hq]; · iexact Hq
  iexact Hh

theorem run_ends (hp : ∀ c n, n < 64 → (pick m c n).toNat < 4096) :
    θ_run defs (onTc (τ := τ) (main (F := F))) (s₀ m ρ) (fun r => Ends m (rdat m) r ∧ r.2.sem = fun _ => 0) :=
  run_around m ρ (rdat m) (fun c => (body_obligation m c (hp c)).toRRel)
    (fun c w _ => (shareOf_eq_fullShare_of_injective spec0 launch0.win.arr_inj w).symm) (fun _ _ => rfl) (fun c w => A_eq0 m c w)
    (enter m) (leave m)

theorem whole_pred : (cfg0.win 10).WholeAt ⟨13, by decide⟩ := by decide
theorem whole_hid : (cfg0.win 11).WholeAt ⟨13, by decide⟩ := by decide

/-- The first result's array ends at the prediction. -/
theorem array_pred (G) (h : (rdat m c).ArrAt 10 cfg0.N G) : G = fun _ => pred m c ⟨12, by decide⟩ := by
  obtain ⟨X, hX, hG⟩ := RDat.ArrAt.emb_eq_of_wholeAt h whole_pred
  have hr : pRel m c 14 X := (dat m c).toRRel_leaves (w := 10) (fgt := fgt0) (Rl := Rl0 m c) rfl hX
  funext j
  refine (hG j).trans ?_
  rw [hr (by omega)]
  rfl

/-- The second's at the new hidden state. -/
theorem array_hid (G) (h : (rdat m c).ArrAt 11 cfg0.N G) : G = hNew m c := by
  obtain ⟨X, hX, hG⟩ := RDat.ArrAt.emb_eq_of_wholeAt h whole_hid
  have hr : hRel m c 14 X := (dat m c).toRRel_leaves (w := 11) (fgt := fgt0) (Rl := Rl0 m c) rfl hX
  funext j
  exact (hG j).trans (hr j (by have : (j 1).val < 1024 := (j 1).isLt; omega))

theorem tail_pred (A) : tailV m c A main_v9 = shapeCast S1 (A 10) shapeCasts_S1x1_S1 := by
  unfold tailV
  simp only [List.flatten_cons, List.flatten_nil, List.append_nil]
  after_results
  exact congrArg (fun X : Vec F S1x1 .f32 => shapeCast S1 X shapeCasts_S1x1_S1) (withArrays_arr spec0 launch0.win.arr_inj c (V0 m c) A 10)

theorem tail_hid (A) : tailV m c A main_v10 = shapeCast S1x1x1024 (A 11) shapeCasts_S1x1024_S1x1x1024 := by
  unfold tailV
  simp only [List.flatten_cons, List.flatten_nil, List.append_nil]
  after_results
  exact congrArg (fun X : Vec F S1x1024 .f32 => shapeCast S1x1x1024 X shapeCasts_S1x1024_S1x1x1024) (withArrays_arr spec0 launch0.win.arr_inj c (V0 m c) A 11)

/-- A buffer that is no array and no result of the last lines ends as the region found it. -/
theorem tail_other (A) (b : Ref sig .tc) (hb : ∀ w, arrRef spec0 w ≠ b) (h9 : b ≠ main_v9) (h10 : b ≠ main_v10) : tailV m c A b = V m c b := by
  unfold tailV
  refine (StableHlo.after_of_forall_not_mem (b := Proc.devRef .tc b) _ _ (List.forall_iff_forall_mem.mp ?_)).trans (withArrays_of_ne spec0 c (V0 m c) A b hb)
  simp only [hostOps1, List.flatten_cons, List.flatten_nil, List.append_nil, List.Forall, StableHlo.reshape_writes, Finset.mem_singleton]
  exact ⟨StableHlo.devRef_ne_of_ne h9, StableHlo.devRef_ne_of_ne h10⟩

theorem rest_of (b : Ref sig .tc) (hs : b.isScoped = false) (hb : ∀ w, (spec0 w).arr.view.ref ≠ b) : b ∈ restRefsP sig Prefetch.none spec0 :=
  Finset.mem_sdiff.mpr ⟨mem_restRefs_of b hs hb, fun h => (Finset.mem_image.mp h).elim fun k _ => k.elim0⟩

/-- An argument that is no array ends as launched. -/
theorem kept (r : PUnit × MemSt nD τ sig (Elt F)) (h : Ends m (rdat m) r) (b : Ref sig .tc) (hs : b.isScoped = false)
    (hb : ∀ w, (spec0 w).arr.view.ref ≠ b) (h9 : b ≠ main_v9) (h10 : b ≠ main_v10) :
    r.2.mem ((c.tc : Thread nD τ).loc b) = V m c b := by
  obtain ⟨-, A, -, hr⟩ := h c
  exact (hr b (rest_of b hs hb)).trans (tail_other m c A b hb h9 h10)

/-- An argument that is an input window's array ends as launched. -/
theorem kept_in (r : PUnit × MemSt nD τ sig (Elt F)) (h : Ends m (rdat m) r) (w : Fin cfg0.W) (hw : (spec0 w).isOut = false) :
    r.2.mem ((spec0 w).arr.view.loc (c.tc : Thread nD τ)) = V m c (arrRef spec0 w) := by
  have h' := (h c).1 w
  rw [(rdat m c).ArrAt_in w hw] at h'
  exact h'

/-- The run. -/
theorem run_main (hp : ∀ c n, n < 64 → (pick m c n).toNat < 4096) :
    θ_run defs (onTc (τ := τ) (main (F := F))) ⟨m, fun _ => 0, ρ⟩ (fun r => (∀ c : Dev nD,
      (r.2.mem ((c.tc : Thread nD τ).loc main_v9) = shapeCast S1 (fun _ => pred m c ⟨12, by decide⟩ : Vec F S1x1 .f32) shapeCasts_S1x1_S1
      ∧ r.2.mem ((c.tc : Thread nD τ).loc main_v10) = shapeCast S1x1x1024 (hNew m c) shapeCasts_S1x1024_S1x1x1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨by
      obtain ⟨-, A, hA, hr⟩ := h.1 c
      exact ⟨(by rw [hr main_v9 (rest_of main_v9 (by decide) (by decide)), tail_pred, array_pred m c _ (hA 10)]; rfl),
        (by rw [hr main_v10 (rest_of main_v10 (by decide) (by decide)), tail_hid, array_hid m c _ (hA 11)])⟩,
      (kept m c r h.1 main_arg0 (by decide) (by decide) (by decide) (by decide)).trans (V_main_arg0 m c),
      (kept m c r h.1 main_arg1 (by decide) (by decide) (by decide) (by decide)).trans (V_main_arg1 m c),
      (kept_in m c r h.1 3 rfl).trans (V_main_arg2 m c),
      (kept m c r h.1 main_arg3 (by decide) (by decide) (by decide) (by decide)).trans (V_main_arg3 m c),
      (kept m c r h.1 main_arg4 (by decide) (by decide) (by decide) (by decide)).trans (V_main_arg4 m c),
      (kept_in m c r h.1 4 rfl).trans (V_main_arg5 m c),
      (kept_in m c r h.1 5 rfl).trans (V_main_arg6 m c),
      (kept m c r h.1 main_arg7 (by decide) (by decide) (by decide) (by decide)).trans (V_main_arg7 m c),
      (kept m c r h.1 main_arg8 (by decide) (by decide) (by decide) (by decide)).trans (V_main_arg8 m c),
      (kept_in m c r h.1 8 rfl).trans (V_main_arg9 m c),
      (kept m c r h.1 main_arg10 (by decide) (by decide) (by decide) (by decide)).trans (V_main_arg10 m c)⟩, h.2⟩)
    (run_ends m ρ hp)

end

end Cert.KernelIdeal.Hand

end
-- ==== Proof.Model.lean ====
/-
  What both programs compute, entry by entry over the extended reals: a score, the prediction from the selected values and rows,
  and the gated recurrent step. Functions of plain arrays.
-/
module

public import Idealize.ShloMosaic.Lib.Pointwise
public import Idealize.ShloMosaic.PureOps.Ideal.Laws

@[expose] public section

noncomputable section

namespace Cert.Model

open Idealize.ShloMosaic

/-- An array of one axis. -/
abbrev Arr1 (n : ℕ) : Type := (⟨1, ![n]⟩ : Shape).Idx → EReal
/-- An array of two axes. -/
abbrev Arr2 (n k : ℕ) : Type := (⟨2, ![n, k]⟩ : Shape).Idx → EReal
/-- An array of three axes. -/
abbrev Arr3 (n k l : ℕ) : Type := (⟨3, ![n, k, l]⟩ : Shape).Idx → EReal
/-- The hidden states. -/
abbrev Hidden : Type := Arr3 4096 1 1024

/-- The score of key `p`: its inner product with the query. -/
def score (q : Arr1 2048) (keys : Arr2 4096 2048) (p : Fin 4096) : EReal := ∑ k : Fin 2048, q (ix1 k) * keys (ix2 p k)

/-- The student's mark is at least one half: the first copy of the query enters. -/
def right (s : EReal) : EReal := if Ideal.ofBits .f32 0x3F000000#32 ≤ s then 1 else 0
/-- The student's mark is below one half: the second copy of the query enters. -/
def wrong (s : EReal) : EReal := if Ideal.ofBits .f32 0x3F000000#32 ≤ s then 0 else 1

/-- The input side of gate row `g`. -/
def inner (q : Arr1 2048) (s : EReal) (W : Arr2 3072 4096) (b : Arr1 3072) (g : Fin 3072) : EReal :=
  ∑ x : Fin 2048, W (ix2 g ⟨x.val, by omega⟩) * (q (ix1 x) * right s)
    + ∑ x : Fin 2048, W (ix2 g ⟨2048 + x.val, by omega⟩) * (q (ix1 x) * wrong s) + b (ix1 g)

/-- The hidden side of gate row `g`. -/
def outer (h : Hidden) (W : Arr2 3072 1024) (b : Arr1 3072) (g : Fin 3072) : EReal :=
  ∑ k : Fin 1024, W (ix2 g k) * h (ix3 4095 0 k) + b (ix1 g)

section Step

variable (q : Arr1 2048) (s : EReal) (h : Hidden) (Wi : Arr2 3072 4096) (Wh : Arr2 3072 1024) (bi bh : Arr1 3072)

/-- The reset gate. -/
def reset (j : Fin 1024) : EReal :=
  Ideal.logistic (inner q s Wi bi ⟨j.val, by omega⟩ + outer h Wh bh ⟨j.val, by omega⟩)
/-- The update gate. -/
def update (j : Fin 1024) : EReal :=
  Ideal.logistic (inner q s Wi bi ⟨1024 + j.val, by omega⟩ + outer h Wh bh ⟨1024 + j.val, by omega⟩)
/-- The candidate state. -/
def candidate (j : Fin 1024) : EReal :=
  Ideal.tanh (inner q s Wi bi ⟨2048 + j.val, by omega⟩
    + reset q s h Wi Wh bi bh j * outer h Wh bh ⟨2048 + j.val, by omega⟩)
/-- The new hidden state. -/
def newState (j : Fin 1024) : EReal :=
  (1 - update q s h Wi Wh bi bh j) * candidate q s h Wi Wh bi bh j + update q s h Wi Wh bi bh j * h (ix3 4095 0 j)

end Step

/-- The greatest of 64 values. -/
def top (v : Fin 64 → EReal) : EReal := Finset.univ.sup v
/-- The softmax weight of entry `j`. -/
def weight (v : Fin 64 → EReal) (j : Fin 64) : EReal :=
  Ideal.div (Ideal.exp (v j - top v)) (∑ i : Fin 64, Ideal.exp (v i - top v))
/-- The attention's output at column `d`, from 64 values and the rows they weigh. -/
def attend (v : Fin 64 → EReal) (row : Fin 64 → Fin 4096) (h : Hidden) (d : Fin 1024) : EReal :=
  ∑ j : Fin 64, weight v j * h (ix3 (row j) 0 d)
/-- The prediction. -/
def prediction (q : Arr1 2048) (v : Fin 64 → EReal) (row : Fin 64 → Fin 4096) (h : Hidden) (W : Arr2 1 3072) (b : EReal) : EReal :=
  ∑ x : Fin 2048, W (ix2 0 ⟨x.val, by omega⟩) * q (ix1 x)
    + ∑ d : Fin 1024, W (ix2 0 ⟨2048 + d.val, by omega⟩) * attend v row h d + b

end Cert.Model

end
-- ==== Proof.Order.lean ====
/-
  The mathematics of a top-k: positions listed by descending value, ties in position order, and what repeated removal of the
  first maximum leaves behind. Nothing here speaks of a program.
-/
module

public import Idealize.ShloMosaic.Lib.PlanTiles.StableSort
public import Idealize.ShloMosaic.Lib.SortFacts
public import Mathlib.Data.EReal.Basic

@[expose] public section

noncomputable section

namespace Cert.TopK

open Idealize.ShloMosaic Idealize.ShloMosaic.PlanTiles

variable {N : ℕ}

/-- `σ` lists the positions by descending value of `K`, the lower position first among equal values. -/
structure Ranked (K : Fin N → EReal) (σ : Fin N → Fin N) : Prop where
  /-- every position is listed -/
  onto : Function.Surjective σ
  /-- an earlier entry has the greater value, or the same value and the lower position -/
  order : ∀ i j, i < j → K (σ j) < K (σ i) ∨ (K (σ i) = K (σ j) ∧ σ i < σ j)

/-- How many positions have a smaller value. -/
def rank (K : Fin N → EReal) (p : Fin N) : ℕ := (Finset.univ.filter fun q => K q < K p).card

/-- The count of smaller values orders the positions as the values do. -/
theorem rank_lt_iff (K : Fin N → EReal) (p q : Fin N) : rank K p < rank K q ↔ K p < K q := by
  constructor
  · intro h
    by_contra hn
    refine absurd (Finset.card_le_card fun x hx => ?_) (not_le.mpr h)
    simp only [Finset.mem_filter, Finset.mem_univ, true_and] at hx ⊢
    exact lt_of_lt_of_le hx (not_lt.mp hn)
  · intro h
    refine Finset.card_lt_card ⟨fun x hx => ?_, fun hs => ?_⟩
    · simp only [Finset.mem_filter, Finset.mem_univ, true_and] at hx ⊢
      exact hx.trans h
    · have := hs (Finset.mem_filter.mpr ⟨Finset.mem_univ p, h⟩)
      exact lt_irrefl _ (Finset.mem_filter.mp this).2

/-- Equal counts mean equal values. -/
theorem eq_of_rank_eq (K : Fin N → EReal) {p q : Fin N} (h : rank K p = rank K q) : K p = K q := by
  rcases lt_trichotomy (K p) (K q) with hl | he | hg
  · exact absurd ((rank_lt_iff K p q).mpr hl) (by omega)
  · exact he
  · exact absurd ((rank_lt_iff K q p).mpr hg) (by omega)

/-- A stable sort by descending value ranks the positions. -/
theorem ranked_sortedFrom (K : Fin N → EReal) : Ranked K (sortedFrom fun p q => decide (K q < K p)) := by
  refine ⟨sortedFrom_surjective _, fun i j hij => ?_⟩
  have hb : (fun p q : Fin N => decide (K q < K p)) = fun p q => decide (rank K q < rank K p) := by
    funext p q
    exact decide_eq_decide.mpr (rank_lt_iff K q p).symm
  rw [hb]
  have hp := pairwise_stableSort_lex (rank K) (· < ·) (List.finRange N) (List.pairwise_lt_finRange N)
  rcases List.pairwise_iff_get.mp hp (i.cast (length_sortPositions N _).symm) (j.cast (length_sortPositions N _).symm) hij with h | ⟨h, h'⟩
  · exact Or.inl ((rank_lt_iff K _ _).mp h)
  · exact Or.inr ⟨eq_of_rank_eq K h, h'⟩

open Classical in
/-- The values once the first `n` listed positions are removed: a removed position holds −∞. -/
def masked (K : Fin N → EReal) (σ : Fin N → Fin N) (n : ℕ) (p : Fin N) : EReal :=
  if ∃ i : Fin N, i.val < n ∧ σ i = p then ⊥ else K p

variable {K : Fin N → EReal} {σ : Fin N → Fin N}

/-- Before any removal the values are all there. -/
theorem masked_zero : masked K σ 0 = K := by
  funext p
  exact if_neg fun ⟨i, hi, _⟩ => absurd hi (Nat.not_lt_zero _)

/-- No remaining value is above the next listed one. -/
theorem masked_le (h : Ranked K σ) (n : Fin N) (p : Fin N) : masked K σ n.val p ≤ K (σ n) := by
  unfold masked
  split
  · exact bot_le
  · next hn =>
    obtain ⟨i, rfl⟩ := h.onto p
    have hi : ¬ i.val < n.val := fun hi => hn ⟨i, hi, rfl⟩
    rcases eq_or_lt_of_le (not_lt.mp hi) with he | hl
    · rw [Fin.ext he.symm]
    · rcases h.order n i hl with h1 | ⟨h1, -⟩
      · exact h1.le
      · exact h1.ge

/-- The next listed position still holds its value. -/
theorem masked_next (h : Ranked K σ) (n : Fin N) : masked K σ n.val (σ n) = K (σ n) := by
  refine if_neg fun ⟨i, hi, he⟩ => ?_
  rcases h.order i n hi with h1 | ⟨-, h1⟩ <;> exact absurd h1 (by rw [he]; exact lt_irrefl _)

/-- Of the positions that still hold the next listed value the listed one is the first, if that value is above −∞. -/
theorem le_of_masked_eq (h : Ranked K σ) (n : Fin N) (hb : K (σ n) ≠ ⊥) (p : Fin N) (hp : masked K σ n.val p = K (σ n)) : σ n ≤ p := by
  unfold masked at hp
  split at hp
  · exact absurd hp.symm hb
  · next hn =>
    obtain ⟨i, rfl⟩ := h.onto p
    have hi : ¬ i.val < n.val := fun hi => hn ⟨i, hi, rfl⟩
    rcases eq_or_lt_of_le (not_lt.mp hi) with he | hl
    · rw [Fin.ext he]
    · rcases h.order n i hl with h1 | ⟨-, h1⟩
      · exact absurd hp (ne_of_lt h1)
      · exact h1.le

open Classical in
/-- Removing the next listed position. -/
theorem masked_succ (n : Fin N) (p : Fin N) : masked K σ (n.val + 1) p = if p = σ n then ⊥ else masked K σ n.val p := by
  unfold masked
  by_cases hp : p = σ n
  · rw [if_pos hp, if_pos ⟨n, Nat.lt_succ_self _, hp.symm⟩]
  · rw [if_neg hp]
    refine if_congr ⟨fun ⟨i, hi, he⟩ => ⟨i, ?_, he⟩, fun ⟨i, hi, he⟩ => ⟨i, Nat.lt_succ_of_lt hi, he⟩⟩ rfl rfl
    rcases Nat.lt_succ_iff_lt_or_eq.mp hi with h | h
    · exact h
    · exact absurd (Fin.ext h ▸ he.symm) hp

end Cert.TopK
-- ==== Proof.Round.lean ====
/-
  One round of the kernel's search over the extended reals: the value that it finds is the greatest of the 8 × 512 entries, the
  pick is the first position that holds it, and the round overwrites that position with −∞.
-/
module

public import proofs.«01_k».proof.Proof.Forms
public import Idealize.ShloMosaic.Lib.Pointwise
public import Idealize.ShloMosaic.Lib.SortNet.Extract
public import Idealize.ShloMosaic.PureOps.Ideal.Laws
public import Idealize.ShloMosaic.PureOps.Reduce

@[expose] public section

noncomputable section

namespace Cert.KernelIdeal.Hand

open Cert.KernelIdeal Cert.KernelIdeal.Gen
open Idealize.ShloMosaic

/-- The word of −∞ is −∞. -/
theorem negInf_word : Ideal.ofBits .f32 0xFF800000#32 = ⊥ := by simp [Ideal.ofBits, Ideal.ieee]

/-- Row `p / 512`, column `p % 512`: position `p` of the flattened block. -/
def cell (p : Fin 4096) : Fin 8 × Fin 512 := (⟨p.val / 512, by omega⟩, ⟨p.val % 512, by omega⟩)

/-- The flat position of a row and a column. -/
def flatPos (x : Fin 8 × Fin 512) : Fin 4096 := ⟨x.1.val * 512 + x.2.val, by omega⟩

theorem flatPos_cell (p : Fin 4096) : flatPos (cell p) = p := by
  apply Fin.ext; simp only [flatPos, cell]; omega

theorem cell_flatPos (x : Fin 8 × Fin 512) : cell (flatPos x) = x := by
  refine Prod.ext (Fin.ext ?_) (Fin.ext ?_) <;> simp only [flatPos, cell] <;> omega

/-- A block's entries by flat position. -/
def flat (a : Vec Ideal S8x512 .f32) (p : Fin 4096) : EReal := a (ValueIdx.ix2 (cell p).1 (cell p).2)

theorem entry_eq_flat (a : Vec Ideal S8x512 .f32) (x : Fin 8 × Fin 512) : a (ix2 x.1 x.2) = flat a (flatPos x) := by
  unfold flat; rw [cell_flatPos]; rfl

/-- The value found is the greatest entry. -/
theorem pay4_eq (a : Vec Ideal S8x512 .f32) :
    k0_pay4 a = (Finset.univ : Finset (Fin 8 × Fin 512)).sup fun x => flat a (flatPos x) := by
  unfold k0_pay4
  pointwise
  rw [negInf_word]
  simp only [entry_eq_flat]
  rfl

/-- If one position holds a value that no entry exceeds, that value is the one found. -/
theorem pay4_eq_of (a : Vec Ideal S8x512 .f32) (v : EReal) (p : Fin 4096) (hp : flat a p = v) (hle : ∀ q, flat a q ≤ v) :
    k0_pay4 a = v := by
  rw [pay4_eq]
  refine le_antisymm (Finset.sup_le fun x _ => hle _) ?_
  have h := Finset.le_sup (f := fun x => flat a (flatPos x)) (Finset.mem_univ (cell p))
  simpa only [flatPos_cell, hp] using h

/-- Some position holds the value found. -/
theorem exists_pay4 (a : Vec Ideal S8x512 .f32) : ∃ p, flat a p = k0_pay4 a := by
  rw [pay4_eq]
  obtain ⟨x, -, hx⟩ := Finset.exists_mem_eq_sup (Finset.univ : Finset (Fin 8 × Fin 512)) ⟨(0, 0), Finset.mem_univ _⟩
    fun x => flat a (flatPos x)
  exact ⟨flatPos x, hx.symm⟩

/-- A signed minimum over a finite set, from a start no smaller than a word of the set that no other goes below. -/
theorem fold_minsi_eq {ι : Type} (s : Finset ι) (g : ι → BitVec 32) (init : BitVec 32) (k : ι) (hk : k ∈ s)
    (hi : (g k).toInt ≤ init.toInt) (hm : ∀ j ∈ s, (g k).toInt ≤ (g j).toInt) : s.fold IntOp.minsi init g = g k := by
  apply BitVec.eq_of_toInt_eq
  rw [← Finset.fold_hom (op' := min) (m := BitVec.toInt) fun x y => SortNet.toInt_minsi x y]
  exact le_antisymm (Finset.fold_min_le (s := s) (b := init.toInt) (f := fun x => (g x).toInt) _ |>.mpr (Or.inr ⟨k, hk, le_refl _⟩))
    (Finset.le_fold_min _ |>.mpr ⟨hi, hm⟩)

/-- The position's word. -/
theorem posWord (x : Fin 8 × Fin 512) :
    IntOp.addi (IntOp.muli (BitVec.ofNat 32 x.1.val) 512#32) (BitVec.ofNat 32 x.2.val) = BitVec.ofNat 32 (flatPos x).val := by
  unfold IntOp.addi IntOp.muli flatPos
  rw [show (512#32) = BitVec.ofNat 32 512 from rfl, ← BitVec.ofNat_mul, ← BitVec.ofNat_add]

theorem toInt_small {n : ℕ} (h : n < 2 ^ 31) : (BitVec.ofNat 32 n).toInt = n := by
  rw [BitVec.toInt_eq_toNat_cond, BitVec.toNat_ofNat, Nat.mod_eq_of_lt (by omega), if_pos (by omega)]

/-- The pick of a block: the word of the first position that holds the value found. -/
def pickOf (a : Vec Ideal S8x512 .f32) : BitVec 32 := extractAt ![0, 0, 0] (k0_pay5 a) inpos_S1x1x1_p0_0_0

/-- The pick is the word of the first position that holds the value found. -/
theorem pickOf_eq (a : Vec Ideal S8x512 .f32) (p : Fin 4096) (hp : flat a p = k0_pay4 a) (hmin : ∀ q, flat a q = k0_pay4 a → p ≤ q) :
    pickOf a = BitVec.ofNat 32 p.val := by
  unfold pickOf k0_pay5 k0_pay3
  pointwise
  simp only [posWord, entry_eq_flat]
  have hcell : (if flat a (flatPos (cell p)) = k0_pay4 a then BitVec.ofNat 32 (flatPos (cell p)).val else 1073741824#32)
      = BitVec.ofNat 32 p.val := by
    rw [flatPos_cell, if_pos hp]
  have hI : (BitVec.ofNat 32 p.val).toInt = (p.val : ℤ) := toInt_small (by omega)
  refine (fold_minsi_eq _ _ _ (cell p) (Finset.mem_univ _) ?_ fun x _ => ?_).trans hcell
  · simp only [hcell, hI]
    have : (2147483647#32).toInt = 2147483647 := by decide
    omega
  · simp only [hcell, hI]
    split
    · next hx =>
      rw [toInt_small (by omega)]
      have := hmin _ hx
      exact_mod_cast this
    · have : (1073741824#32).toInt = 1073741824 := by decide
      omega

/-- Some pick exists: it is the word of a position below 4096. -/
theorem pickOf_lt (a : Vec Ideal S8x512 .f32) : (pickOf a).toNat < 4096 := by
  obtain ⟨p₀, hp₀⟩ := exists_pay4 a
  obtain ⟨p, hp, hmin⟩ := Finset.exists_min_image (Finset.univ.filter fun p => flat a p = k0_pay4 a) id
    ⟨p₀, Finset.mem_filter.mpr ⟨Finset.mem_univ _, hp₀⟩⟩
  rw [pickOf_eq a p (Finset.mem_filter.mp hp).2 fun q hq => hmin q (Finset.mem_filter.mpr ⟨Finset.mem_univ _, hq⟩), BitVec.toNat_ofNat,
    Nat.mod_eq_of_lt (by omega)]
  exact p.isLt

/-- A round overwrites the position it picked with −∞ and keeps the rest. -/
theorem flat_pay6 (a : Vec Ideal S8x512 .f32) (p : Fin 4096) (hp : pickOf a = BitVec.ofNat 32 p.val) (q : Fin 4096) :
    flat (k0_pay6 a) q = if q = p then ⊥ else flat a q := by
  have hc : IntOp.cmpi .eq (BitVec.ofNat 32 q.val) (BitVec.ofNat 32 p.val) = BitVec.ofBool (decide (q = p)) := by
    unfold IntOp.cmpi
    refine congrArg BitVec.ofBool ?_
    refine decide_eq_decide.mpr ⟨fun h => Fin.ext ?_, fun h => by rw [h]⟩
    have := congrArg BitVec.toNat h
    rw [BitVec.toNat_ofNat, BitVec.toNat_ofNat, Nat.mod_eq_of_lt (by omega), Nat.mod_eq_of_lt (by omega)] at this
    exact this
  have hk : k0_pay5 a (ix3 0 0 0) = BitVec.ofNat 32 p.val := by
    rw [← hp]
    unfold pickOf
    pointwise
  have hq : IntOp.addi (IntOp.muli (BitVec.ofNat 32 (cell q).1.val) 512#32) (BitVec.ofNat 32 (cell q).2.val) = BitVec.ofNat 32 q.val := by
    rw [posWord, flatPos_cell]
  unfold flat k0_pay6 k0_pay3
  pointwise
  rw [hq, hk, hc, negInf_word]
  by_cases h : q = p <;> simp [h, Scalar.select]

end Cert.KernelIdeal.Hand
-- ==== Proof.Blocks.lean ====
/-
  The blocks that the grid points are handed, entry by entry, as entries of the arguments.
-/
module

public import proofs.«01_k».proof.Proof.Forms
public import Idealize.ShloMosaic.Lib.Claim
public import Idealize.ShloMosaic.Lib.Pointwise
public import Idealize.ShloMosaic.Lib.StableHlo.ReadAt
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The windows that hand every point the whole array. -/
theorem idx_whole : ∀ t : Fin cfg0.N, win0_0.index t = ![0, 0] ∧ win0_1.index t = ![0, 0] ∧ win0_2.index t = ![0, 0]
    ∧ win0_6.index t = ![0, 0] ∧ win0_7.index t = ![0, 0] ∧ win0_8.index t = ![0, 0] ∧ win0_9.index t = ![0, 0] := by decide +kernel

/-- The first eight points are handed the eight blocks of the keys. -/
theorem idx_keys : ∀ t : Fin cfg0.N, win0_3.index t = ![min t.val 7, 0] := by decide +kernel

/-- The last six points are handed the six blocks of the weights. -/
theorem idx_weights : ∀ t : Fin cfg0.N, win0_4.index t = ![min (t.val - 8) 5, 0] ∧ win0_5.index t = ![min (t.val - 8) 5, 0] := by
  decide +kernel

/-- The region finds the query reshaped. -/
theorem v0_read (k : Fin 2048) : V m c main_v0 (ix2 0 k) = m (c.tc.loc main_arg0) (ix1 k) := by
  unfold V
  after_reads_at

theorem qB_apply (t : Fin grid0.N) (k : Fin 2048) : qB m c t (ix2 0 k) = m (c.tc.loc main_arg0) (ix1 k) := by
  refine Eq.trans (b := V m c main_v0 (ix2 0 k)) ?_ (v0_read m c k)
  unfold qB
  blk_ext [iblk, (idx_whole t).2.1]

/-- The region finds the last hidden state reshaped. -/
theorem v3_read (k : Fin 1024) : V m c main_v3 (ix2 0 k) = m (c.tc.loc main_arg3) (ix3 4095 0 k) := by
  unfold V
  after_reads_at

theorem h0B_apply (t : Fin grid0.N) (k : Fin 1024) : h0B m c t (ix2 0 k) = m (c.tc.loc main_arg3) (ix3 4095 0 k) := by
  refine Eq.trans (b := V m c main_v3 (ix2 0 k)) ?_ (v3_read m c k)
  unfold h0B
  blk_ext [iblk, (idx_whole t).2.2.1]

/-- The region finds the score reshaped. -/
theorem v4_read  : V m c main_v4 (ix2 0 0) = m (c.tc.loc main_arg1) (ix1 0) := by
  unfold V
  after_reads_at

theorem scoreB_apply (t : Fin grid0.N) : scoreB m c t (ix2 0 0) = m (c.tc.loc main_arg1) (ix1 0) := by
  refine Eq.trans (b := V m c main_v4 (ix2 0 0)) ?_ (v4_read m c )
  unfold scoreB
  blk_ext [iblk, (idx_whole t).1]

/-- The region finds the input biases reshaped. -/
theorem v5_read (g : Fin 3) (k : Fin 1024) : V m c main_v5 (ix2 g k) = m (c.tc.loc main_arg7) (ix1 ⟨g.val * 1024 + k.val, by omega⟩) := by
  unfold V
  after_reads_at

theorem bihB_apply (t : Fin grid0.N) (g : Fin 3) (k : Fin 1024) :
    bihB m c t (ix2 g k) = m (c.tc.loc main_arg7) (ix1 ⟨g.val * 1024 + k.val, by omega⟩) := by
  refine Eq.trans (b := V m c main_v5 (ix2 g k)) ?_ (v5_read m c g k)
  unfold bihB
  blk_ext [iblk, (idx_whole t).2.2.2.1]

/-- The region finds the hidden biases reshaped. -/
theorem v6_read (g : Fin 3) (k : Fin 1024) : V m c main_v6 (ix2 g k) = m (c.tc.loc main_arg8) (ix1 ⟨g.val * 1024 + k.val, by omega⟩) := by
  unfold V
  after_reads_at

theorem bhhB_apply (t : Fin grid0.N) (g : Fin 3) (k : Fin 1024) :
    bhhB m c t (ix2 g k) = m (c.tc.loc main_arg8) (ix1 ⟨g.val * 1024 + k.val, by omega⟩) := by
  refine Eq.trans (b := V m c main_v6 (ix2 g k)) ?_ (v6_read m c g k)
  unfold bhhB
  blk_ext [iblk, (idx_whole t).2.2.2.2.1]

theorem wscB_apply (t : Fin grid0.N) (k : Fin 3072) : wscB m c t (ix2 0 k) = m (c.tc.loc main_arg9) (ix2 0 k) := by
  unfold wscB
  blk_ext [iblk, V, (idx_whole t).2.2.2.2.2.1]

/-- The region finds the score bias reshaped. -/
theorem v7_read  : V m c main_v7 (ix2 0 0) = m (c.tc.loc main_arg10) (ix1 0) := by
  unfold V
  after_reads_at

theorem bscB_apply (t : Fin grid0.N) : bscB m c t (ix2 0 0) = m (c.tc.loc main_arg10) (ix1 0) := by
  refine Eq.trans (b := V m c main_v7 (ix2 0 0)) ?_ (v7_read m c )
  unfold bscB
  blk_ext [iblk, (idx_whole t).2.2.2.2.2.2]

theorem questB_apply (t : Fin grid0.N) (ht : t.val < 8) (j : Fin 512) (k : Fin 2048) :
    questB m c t (ix2 j k) = m (c.tc.loc main_arg2) (ix2 ⟨512 * t.val + j.val, by omega⟩ k) := by
  unfold questB
  blk_ext [iblk, V, idx_keys t]

theorem wihB_apply (t : Fin grid0.N) (n : Fin 6) (ht : t.val = 8 + n.val) (j : Fin 512) (k : Fin 4096) :
    wihB m c t (ix2 j k) = m (c.tc.loc main_arg5) (ix2 ⟨512 * n.val + j.val, by omega⟩ k) := by
  unfold wihB
  blk_ext [iblk, V, (idx_weights t).1]

theorem whhB_apply (t : Fin grid0.N) (n : Fin 6) (ht : t.val = 8 + n.val) (j : Fin 512) (k : Fin 1024) :
    whhB m c t (ix2 j k) = m (c.tc.loc main_arg6) (ix2 ⟨512 * n.val + j.val, by omega⟩ k) := by
  unfold whhB
  blk_ext [iblk, V, (idx_weights t).2]

theorem hsA_apply (p : Fin 4096) (k : Fin 1024) : hsA m c (ix3 p 0 k) = m (c.tc.loc main_arg3) (ix3 p 0 k) := by
  unfold hsA
  rw [V_main_arg3]

end Cert.KernelIdeal.Hand

end
-- ==== Proof.Search.lean ====
/-
  The kernel's 64 rounds over the extended reals: with the scores ranked by descending value, ties in position order, and every
  score above −∞, round `n` finds the value and the position of rank `n`.
-/
module

public import proofs.«01_k».proof.Proof.Model
public import proofs.«01_k».proof.Proof.Order
public import proofs.«01_k».proof.Proof.Round
public import proofs.«01_k».proof.Proof.Blocks

@[expose] public section

noncomputable section

namespace Cert.KernelIdeal.Hand

open Cert.KernelIdeal Cert.KernelIdeal.Gen Cert.TopK
open Idealize.ShloMosaic Idealize.ShloMosaic.TcCoe

variable (m : (ℓ : Loc nD τ sig) → Buf (Elt Ideal) ℓ) (c : Dev nD)

/-- A pick is a position below 4096, whatever the scores. -/
theorem pick_lt (n : ℕ) : (pick m c n).toNat < 4096 := pickOf_lt (aRound m c n)

variable {σ : Fin 4096 → Fin 4096}

/-- What round `n` finds in scores from which the first `n` listed positions are removed. -/
theorem round_finds (h : Ranked (flat (alpha m c)) σ) (hb : ∀ p, flat (alpha m c) p ≠ ⊥) (n : Fin 4096)
    (hn : flat (aRound m c n.val) = masked (flat (alpha m c)) σ n.val) :
    val m c n.val = flat (alpha m c) (σ n) ∧ pick m c n.val = BitVec.ofNat 32 (σ n).val := by
  have hv : k0_pay4 (aRound m c n.val) = flat (alpha m c) (σ n) :=
    pay4_eq_of _ _ (σ n) (by rw [hn]; exact masked_next h n) fun q => by rw [hn]; exact masked_le h n q
  refine ⟨hv, pickOf_eq _ (σ n) (by rw [hn, hv]; exact masked_next h n) fun q hq => ?_⟩
  rw [hn, hv] at hq
  exact le_of_masked_eq h n (hb _) q hq

/-- Before round `n` the first `n` listed positions are removed and the rest of the scores are there. -/
theorem flat_aRound (h : Ranked (flat (alpha m c)) σ) (hb : ∀ p, flat (alpha m c) p ≠ ⊥) :
    ∀ n : ℕ, n ≤ 4096 → flat (aRound m c n) = masked (flat (alpha m c)) σ n
  | 0, _ => masked_zero.symm
  | n + 1, hn => by
    have ih := flat_aRound h hb n (by omega)
    funext q
    rw [aRound_succ, flat_pay6 _ (σ ⟨n, hn⟩) (round_finds m c h hb ⟨n, hn⟩ ih).2, masked_succ ⟨n, hn⟩ q, ih]

/-- Round `n` finds the value of rank `n`. -/
theorem val_eq (h : Ranked (flat (alpha m c)) σ) (hb : ∀ p, flat (alpha m c) p ≠ ⊥) (n : Fin 4096) :
    val m c n.val = flat (alpha m c) (σ n) :=
  (round_finds m c h hb n (flat_aRound m c h hb n.val n.isLt.le)).1

/-- Round `n` picks the row of rank `n`. -/
theorem prow_eq (h : Ranked (flat (alpha m c)) σ) (hb : ∀ p, flat (alpha m c) p ≠ ⊥) (n : Fin 4096) : prow m c n.val = σ n := by
  apply Fin.ext
  unfold prow
  simp only
  rw [(round_finds m c h hb n (flat_aRound m c h hb n.val n.isLt.le)).2, BitVec.toNat_ofNat]
  omega

/-- A score is the inner product of the query and its key. -/
theorem flat_alpha (p : Fin 4096) :
    flat (alpha m c) p = Model.score (m (c.tc.loc main_arg0)) (m (c.tc.loc main_arg2)) p := by
  have e : ∀ (q : Vec Ideal S1x2048 .f32) (x : Vec Ideal S512x2048 .f32) (j : Fin 512),
      k0_pay2 q x (ix2 0 j) = ∑ k, q (ix2 0 k) * x (ix2 j k) := fun q x j => by
    unfold k0_pay2 k0_pay1
    pointwise
  refine (e _ _ (cell p).2).trans (Finset.sum_congr rfl fun k _ => ?_)
  rw [qB_apply, questB_apply m c _ (cell p).1.isLt]
  refine congrArg (HMul.hMul (α := EReal) (β := EReal) (γ := EReal) _)
    (congrArg (m (c.tc.loc main_arg2)) (congrArg (fun i : Fin 4096 => ix2 i k) (Fin.ext ?_)))
  simp only [cell]
  omega

end Cert.KernelIdeal.Hand

end
-- ==== Proof.Step.lean ====
/-
  The kernel's recurrent step over the extended reals: each half that a point stores is the model's gate, entry by entry.
-/
module

public import proofs.«01_k».proof.Proof.Model
public import proofs.«01_k».proof.Proof.Blocks

@[expose] public section

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- Entry `j` of the input product of a block of weights. -/
theorem pay11_apply (q : Vec Ideal S1x2048 .f32) (s : EReal) (W : Vec Ideal S512x4096 .f32) (j : Fin 512) :
    k0_pay11 q s W (ix2 0 j) = ∑ x : Fin 2048, W (ix2 j ⟨x.val, by omega⟩) * (q (ix2 0 x) * Model.right s)
      + ∑ x : Fin 2048, W (ix2 j ⟨2048 + x.val, by omega⟩) * (q (ix2 0 x) * Model.wrong s) := by
  unfold k0_pay11 k0_pay1
  pointwise
  exact congrArg₂ (· + ·) (Finset.sum_congr rfl fun _ _ => mul_comm _ _) (Finset.sum_congr rfl fun _ _ => mul_comm _ _)

/-- Entry `j` of the hidden product of a block of weights. -/
theorem pay12_apply (h : Vec Ideal S1x1024 .f32) (W : Vec Ideal S512x1024 .f32) (j : Fin 512) :
    k0_pay12 h W (ix2 0 j) = ∑ k : Fin 1024, W (ix2 j k) * h (ix2 0 k) := by
  unfold k0_pay12
  pointwise
  exact Finset.sum_congr rfl fun _ _ => mul_comm _ _

/-- The input side of row `512 n + j`, as point `8 + n` computes it. -/
theorem inner_eq (t : Fin grid0.N) (n : Fin 6) (ht : t.val = 8 + n.val) (g : Fin 3) (p : Fin 2) (hn : n.val = 2 * g.val + p.val) (j : Fin 512) :
    (k0_pay11 (qB m c t) (scoreB m c t ix11) (wihB m c t) (ix2 0 j) : EReal) + half (bihB m c t) g p (ix2 0 j)
      = Model.inner (m (c.tc.loc main_arg0)) (m (c.tc.loc main_arg1) (ix1 0)) (m (c.tc.loc main_arg5)) (m (c.tc.loc main_arg7))
          ⟨512 * n.val + j.val, by omega⟩ := by
  have hb : half (bihB m c t) g p (ix2 0 j) = (m (c.tc.loc main_arg7) : Model.Arr1 3072) (ix1 ⟨512 * n.val + j.val, by omega⟩) := by
    refine (bihB_apply m c t g ⟨512 * p.val + j.val, by omega⟩).trans (congrArg (fun i => m (c.tc.loc main_arg7) (ix1 i)) (Fin.ext ?_))
    simp only
    omega
  have hs : scoreB m c t ix11 = m (c.tc.loc main_arg1) (ix1 0) := scoreB_apply m c t
  rw [hb, hs, pay11_apply]
  simp only [wihB_apply m c t n ht, qB_apply]
  rfl

/-- The hidden side of row `512 n + j`, as point `8 + n` computes it. -/
theorem outer_eq (t : Fin grid0.N) (n : Fin 6) (ht : t.val = 8 + n.val) (g : Fin 3) (p : Fin 2) (hn : n.val = 2 * g.val + p.val) (j : Fin 512) :
    (k0_pay12 (h0B m c t) (whhB m c t) (ix2 0 j) : EReal) + half (bhhB m c t) g p (ix2 0 j)
      = Model.outer (m (c.tc.loc main_arg3)) (m (c.tc.loc main_arg6)) (m (c.tc.loc main_arg8)) ⟨512 * n.val + j.val, by omega⟩ := by
  have hb : half (bhhB m c t) g p (ix2 0 j) = (m (c.tc.loc main_arg8) : Model.Arr1 3072) (ix1 ⟨512 * n.val + j.val, by omega⟩) := by
    refine (bhhB_apply m c t g ⟨512 * p.val + j.val, by omega⟩).trans (congrArg (fun i => m (c.tc.loc main_arg8) (ix1 i)) (Fin.ext ?_))
    simp only
    omega
  rw [hb, pay12_apply]
  simp only [whhB_apply m c t n ht, h0B_apply]
  rfl

section Gates

variable (v0 : Vec Ideal S1x2048 .f32) (v2 : Vec Ideal S1x1024 .f32) (v21 : EReal) (v30 : Vec Ideal S512x4096 .f32)
  (v32 : Vec Ideal S512x1024 .f32) (v46 v50 r z h : Vec Ideal S1x512 .f32) (j : Fin 512)

/-- Entry `j` of a half of the reset gate. -/
theorem pay13_apply : k0_pay13 v0 v2 v21 v30 v32 v46 v50 (ix2 0 j)
    = Ideal.logistic (((k0_pay11 v0 v21 v30 (ix2 0 j) : EReal) + v46 (ix2 0 j)) + ((k0_pay12 v2 v32 (ix2 0 j) : EReal) + v50 (ix2 0 j))) := by
  unfold k0_pay13
  pointwise

/-- Entry `j` of a half of the update gate. -/
theorem pay14_apply : k0_pay14 v0 v2 v21 v30 v32 v46 v50 (ix2 0 j)
    = Ideal.logistic (((k0_pay11 v0 v21 v30 (ix2 0 j) : EReal) + v46 (ix2 0 j)) + ((k0_pay12 v2 v32 (ix2 0 j) : EReal) + v50 (ix2 0 j))) := by
  unfold k0_pay14
  pointwise

/-- Entry `j` of a half of the new state. -/
theorem pay15_apply : k0_pay15 v0 v2 v21 v30 v32 v46 v50 r z h (ix2 0 j)
    = (1 - z (ix2 0 j)) * Ideal.tanh (((k0_pay11 v0 v21 v30 (ix2 0 j) : EReal) + v46 (ix2 0 j))
        + r (ix2 0 j) * ((k0_pay12 v2 v32 (ix2 0 j) : EReal) + v50 (ix2 0 j))) + z (ix2 0 j) * h (ix2 0 j) := by
  unfold k0_pay15
  pointwise

end Gates

/-- Entry `j` of half `p` of a row. -/
abbrev whole (p : Fin 2) (j : Fin 512) : Fin 1024 := ⟨512 * p.val + j.val, by omega⟩

/-- The reset gate stored is the model's. -/
theorem rHalf_apply (p : Fin 2) (j : Fin 512) : rHalf m c p (ix2 0 j)
    = Model.reset (m (c.tc.loc main_arg0)) (m (c.tc.loc main_arg1) (ix1 0)) (m (c.tc.loc main_arg3)) (m (c.tc.loc main_arg5))
        (m (c.tc.loc main_arg6)) (m (c.tc.loc main_arg7)) (m (c.tc.loc main_arg8)) (whole p j) := by
  refine (pay13_apply _ _ _ _ _ _ _ j).trans ?_
  rw [inner_eq m c ⟨8 + p.val, by rw [N_0]; omega⟩ ⟨p.val, by omega⟩ rfl 0 p (Nat.zero_add _).symm j,
    outer_eq m c ⟨8 + p.val, by rw [N_0]; omega⟩ ⟨p.val, by omega⟩ rfl 0 p (Nat.zero_add _).symm j]
  rfl

/-- The update gate stored is the model's. -/
theorem zHalf_apply (p : Fin 2) (j : Fin 512) : zHalf m c p (ix2 0 j)
    = Model.update (m (c.tc.loc main_arg0)) (m (c.tc.loc main_arg1) (ix1 0)) (m (c.tc.loc main_arg3)) (m (c.tc.loc main_arg5))
        (m (c.tc.loc main_arg6)) (m (c.tc.loc main_arg7)) (m (c.tc.loc main_arg8)) (whole p j) := by
  have e : (⟨512 * (2 + p.val) + j.val, by omega⟩ : Fin 3072) = ⟨1024 + (whole p j).val, by omega⟩ := Fin.ext (by simp only; omega)
  refine (pay14_apply _ _ _ _ _ _ _ j).trans ?_
  rw [inner_eq m c ⟨10 + p.val, by rw [N_0]; omega⟩ ⟨2 + p.val, by omega⟩ (by simp only; omega) 1 p rfl j,
    outer_eq m c ⟨10 + p.val, by rw [N_0]; omega⟩ ⟨2 + p.val, by omega⟩ (by simp only; omega) 1 p rfl j, e]
  rfl

/-- The new state stored is the model's. -/
theorem hHalf_apply (p : Fin 2) (j : Fin 512) : hHalf m c p (ix2 0 j)
    = Model.newState (m (c.tc.loc main_arg0)) (m (c.tc.loc main_arg1) (ix1 0)) (m (c.tc.loc main_arg3)) (m (c.tc.loc main_arg5))
        (m (c.tc.loc main_arg6)) (m (c.tc.loc main_arg7)) (m (c.tc.loc main_arg8)) (whole p j) := by
  have e : (⟨512 * (4 + p.val) + j.val, by omega⟩ : Fin 3072) = ⟨2048 + (whole p j).val, by omega⟩ := Fin.ext (by simp only; omega)
  have hh : half (n := 1) (h0B m c ⟨12 + p.val, by rw [N_0]; omega⟩) 0 p (ix2 0 j) = m (c.tc.loc main_arg3) (ix3 4095 0 (whole p j)) :=
    h0B_apply m c _ _
  refine (pay15_apply _ _ _ _ _ _ _ _ _ _ j).trans ?_
  rw [inner_eq m c ⟨12 + p.val, by rw [N_0]; omega⟩ ⟨4 + p.val, by omega⟩ (by simp only; omega) 2 p rfl j,
    outer_eq m c ⟨12 + p.val, by rw [N_0]; omega⟩ ⟨4 + p.val, by omega⟩ (by simp only; omega) 2 p rfl j, e, rHalf_apply, zHalf_apply, hh]
  rfl

/-- The kernel's new state is the model's. -/
theorem hNew_apply (j : Fin 1024) : hNew m c (ix2 0 j)
    = Model.newState (m (c.tc.loc main_arg0)) (m (c.tc.loc main_arg1) (ix1 0)) (m (c.tc.loc main_arg3)) (m (c.tc.loc main_arg5))
        (m (c.tc.loc main_arg6)) (m (c.tc.loc main_arg7)) (m (c.tc.loc main_arg8)) j := by
  have e : whole ⟨j.val / 512, by omega⟩ ⟨j.val % 512, by omega⟩ = j := Fin.ext (Nat.div_add_mod j.val 512)
  exact (hHalf_apply m c ⟨j.val / 512, by omega⟩ ⟨j.val % 512, by omega⟩).trans (congrArg _ e)

end Cert.KernelIdeal.Hand

end
-- ==== Proof.Pred.lean ====
/-
  The kernel's prediction over the extended reals: the model's, at the positions a ranking of finite scores lists first.
-/
module

public import proofs.«01_k».proof.Proof.Model
public import proofs.«01_k».proof.Proof.Blocks
public import proofs.«01_k».proof.Proof.Search

@[expose] public section

noncomputable section

namespace Cert.KernelIdeal.Hand

open Cert.KernelIdeal Cert.KernelIdeal.Gen Cert.TopK
open Idealize.ShloMosaic Idealize.ShloMosaic.TcCoe

variable (m : (ℓ : Loc nD τ sig) → Buf (Elt Ideal) ℓ) (c : Dev nD)

/-- The greatest of 64 values, as the kernel folds it over a row. -/
theorem top_row (v : Fin 64 → EReal) :
    Finset.fold max (Ideal.ofBits FTy.f32 0xFF800000#32) (fun x : Fin 1 × Fin 64 => v x.2) Finset.univ = Model.top v := by
  have h : Ideal.ofBits FTy.f32 0xFF800000#32 = ⊥ := by simp [Ideal.ofBits, Ideal.ieee]
  rw [h]
  show Finset.univ.sup (fun x : Fin 1 × Fin 64 => v x.2) = Finset.univ.sup v
  refine le_antisymm (Finset.sup_le fun x _ => Finset.le_sup (f := v) (Finset.mem_univ x.2)) (Finset.sup_le fun j _ => ?_)
  exact Finset.le_sup (f := fun x : Fin 1 × Fin 64 => v x.2) (Finset.mem_univ ((0 : Fin 1), j))

/-- The last stage of the kernel: softmax, attention, prediction. -/
theorem pay10_apply (q : Vec Ideal S1x2048 .f32) (v : Vec Ideal S1x64 .f32) (g : Vec Ideal S64x1024 .f32) (W : Vec Ideal S1x3072 .f32) (b : EReal) :
    k0_pay10 q v g W b = ∑ x : Fin 2048, (W (ix2 0 ⟨x.val, by omega⟩) : EReal) * q (ix2 0 x)
      + ∑ d : Fin 1024, (W (ix2 0 ⟨2048 + d.val, by omega⟩) : EReal) * (∑ j : Fin 64, Model.weight (fun i => v (ix2 0 i)) j * g (ix2 j d)) + b := by
  unfold k0_pay10 k0_pay1
  pointwise
  simp only [top_row (fun i => v (ix2 0 i)), Finset.univ_unique, Finset.sum_singleton]
  rfl

variable {σ : Fin 4096 → Fin 4096}

/-- The kernel's prediction is the model's. -/
theorem pred_apply (t : Fin grid0.N) (h : Ranked (flat (alpha m c)) σ) (hb : ∀ p, flat (alpha m c) p ≠ ⊥) :
    pred m c t = Model.prediction (m (c.tc.loc main_arg0))
      (fun j => Model.score (m (c.tc.loc main_arg0)) (m (c.tc.loc main_arg2)) (σ ⟨j.val, by omega⟩)) (fun j => σ ⟨j.val, by omega⟩)
      (m (c.tc.loc main_arg3)) (m (c.tc.loc main_arg9)) (m (c.tc.loc main_arg10) (ix1 0)) := by
  have hv : ∀ j : Fin 64, vals m c (ix2 0 j) = Model.score (m (c.tc.loc main_arg0)) (m (c.tc.loc main_arg2)) (σ ⟨j.val, by omega⟩) :=
    fun j => (val_eq m c h hb ⟨j.val, by omega⟩).trans (flat_alpha m c _)
  have hg : ∀ (j : Fin 64) (d : Fin 1024), gathered m c (ix2 j d) = m (c.tc.loc main_arg3) (ix3 (σ ⟨j.val, by omega⟩) 0 d) := fun j d => by
    refine Eq.trans (b := hsA m c (ix3 (prow m c j.val) 0 d)) rfl ?_
    rw [prow_eq m c h hb ⟨j.val, by omega⟩, hsA_apply]
  have hs : bscB m c t ix11 = m (c.tc.loc main_arg10) (ix1 0) := bscB_apply m c t
  refine (pay10_apply _ _ _ _ _).trans ?_
  rw [hs]
  simp only [wscB_apply, qB_apply, hv, hg]
  rfl

end Cert.KernelIdeal.Hand

end
-- ==== Proof.RefRead.lean ====
/-
  The reference's two results over the extended reals, entry by entry: the new hidden state is the model's, and the prediction
  is the model's at the 64 positions that a stable descending sort of the scores lists first.
-/
module

public import proofs.«01_k».proof.Proof.Gen.ReferenceIdeal.Run
public import proofs.«01_k».proof.Proof.Model
public import proofs.«01_k».proof.Proof.Order
public import Idealize.ShloMosaic.Lib.Routing.Ops
public import Idealize.ShloMosaic.Lib.Routing.OpsPair

@[expose] public section

noncomputable section

namespace Cert.ReferenceIdeal.Hand

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The first mark, as the reference converts it. -/
theorem right_eq (s : EReal) :
    FloatOps.uitofp (F := Ideal) FTy.f32 (BitVec.ofBool (decide (Ideal.ofBits FTy.f32 0x3F000000#32 ≤ s))) = Model.right s := by
  unfold Model.right
  by_cases h : Ideal.ofBits FTy.f32 0x3F000000#32 ≤ s
  · rw [decide_eq_true h, if_pos h]
    show (((1 : ℕ) : ℝ) : EReal) = 1
    simp
  · rw [decide_eq_false h, if_neg h]
    show (((0 : ℕ) : ℝ) : EReal) = 0
    simp

/-- The second mark, as the reference converts it. -/
theorem wrong_eq (s : EReal) :
    FloatOps.uitofp (F := Ideal) FTy.f32 (BitVec.ofBool (decide (s < Ideal.ofBits FTy.f32 0x3F000000#32))) = Model.wrong s := by
  unfold Model.wrong
  by_cases h : Ideal.ofBits FTy.f32 0x3F000000#32 ≤ s
  · rw [decide_eq_false (not_lt.mpr h), if_pos h]
    show (((0 : ℕ) : ℝ) : EReal) = 0
    simp
  · rw [decide_eq_true (not_le.mp h), if_neg h]
    show (((1 : ℕ) : ℝ) : EReal) = 1
    simp

/-- The reference's new state is the model's. -/
theorem newState_eq (j : Fin 1024) : (res_main_v71 m c : Model.Arr3 1 1 1024) (ix3 0 0 j)
    = Model.newState (m (c.tc.loc main_arg0)) (m (c.tc.loc main_arg1) (ix1 0)) (m (c.tc.loc main_arg3)) (m (c.tc.loc main_arg5))
        (m (c.tc.loc main_arg6)) (m (c.tc.loc main_arg7)) (m (c.tc.loc main_arg8)) j := by
  unfold res_main_v71
  pointwise
  simp only [right_eq, wrong_eq]
  rfl

/-- The positions of `x` by descending value, ties in position order. -/
def listed (x : Fin 4096 → EReal) : Fin 4096 → Fin 4096 := sortedFrom fun p q => decide (x q < x p)

/-- The comparison of the sort, as a decision. -/
theorem gt_decide (a b : EReal) : (FloatOps.cmpfTotal (F := Ideal) (φ := .f32) .gt a b == 1#1) = decide (b < a) := by
  show (BitVec.ofBool (decide (b < a)) == 1#1) = decide (b < a)
  by_cases h : b < a
  · rw [decide_eq_true h]; rfl
  · rw [decide_eq_false h]; rfl

/-- Both lists of the top-k: the values listed first, and their positions. -/
theorem topK_both (x : FVec Ideal S4096 .f32) (j : Fin 64) :
    (Host.topK S64 0 (FloatOps.cmpfTotal .gt) x sliceFits_S4096_S64).1 (ix1 j)
        = x (ix1 (listed (fun p => x (ix1 p)) ⟨j.val, by omega⟩))
      ∧ (Host.topK S64 0 (FloatOps.cmpfTotal .gt) x sliceFits_S4096_S64).2 (ix1 j)
        = BitVec.ofNat 32 (listed (fun p => x (ix1 p)) ⟨j.val, by omega⟩).val := by
  have e : ∀ k : Fin 4096, (ix1 (⟨j.val, by omega⟩ : Fin 4096) : S4096.Idx).along 0 k = ix1 k := fun k => by
    funext a
    match a with
    | ⟨0, _⟩ => rfl
  unfold Host.topK Host.sort2
  pointwise
  simp only [e, gt_decide]
  exact ⟨rfl, rfl⟩

/-- A row number is neither negative nor past the last row. -/
theorem row_word (b : Fin 4096) : Scalar.select (IntOp.cmpi .slt (BitVec.ofNat 32 b.val) 0#32) (IntOp.addi (BitVec.ofNat 32 b.val) 4096#32)
      (BitVec.ofNat 32 b.val) = BitVec.ofNat 32 b.val
    ∧ IntOp.cmpi .sge (BitVec.ofNat 32 b.val) 0#32 = 1#1 ∧ IntOp.cmpi .sle (BitVec.ofNat 32 b.val) 4095#32 = 1#1 := by
  have hi : (BitVec.ofNat 32 b.val).toInt = b.val := by
    rw [BitVec.toInt_eq_toNat_of_lt] <;> rw [BitVec.toNat_ofNat] <;> omega
  refine ⟨?_, ?_, ?_⟩
  · have : IntOp.cmpi .slt (BitVec.ofNat 32 b.val) 0#32 = 0#1 := by
      show BitVec.ofBool ((BitVec.ofNat 32 b.val).slt 0#32) = 0#1
      rw [BitVec.slt, hi, decide_eq_false (by simp)]
      rfl
    rw [this]
    rfl
  · show BitVec.ofBool ((0#32).sle (BitVec.ofNat 32 b.val)) = 1#1
    rw [BitVec.sle, hi, decide_eq_true (by simp)]
    rfl
  · show BitVec.ofBool ((BitVec.ofNat 32 b.val).sle 4095#32) = 1#1
    rw [BitVec.sle, hi, decide_eq_true (by have := b.isLt; simp; omega)]
    rfl

/-- The reference's scores. -/
abbrev scores : FVec Ideal S4096 .f32 :=
  shapeCast _ (Host.dotGeneral (φ₁ := .f32) (φ₂ := .f32) dot_S4096x2048_S2048x1_S4096x1_1_0_0_1_n_n none (m ((c.tc : Thread nD τ).loc main_arg2))
    (shapeCast _ (m ((c.tc : Thread nD τ).loc main_arg0)) shapeCasts_S2048_S2048x1)) shapeCasts_S4096x1_S4096

theorem scores_apply (p : Fin 4096) : scores m c (ix1 p) = Model.score (m (c.tc.loc main_arg0)) (m (c.tc.loc main_arg2)) p := by
  unfold scores
  pointwise
  exact Finset.sum_congr rfl fun _ _ => mul_comm _ _

/-- The greatest of 64 values, as the reference folds it. -/
theorem top_eq (v : Fin 64 → EReal) :
    max (Ideal.ofBits FTy.f32 0xFF800000#32) (Finset.fold max (Ideal.ofBits FTy.f32 0xFF800000#32) v Finset.univ) = Model.top v := by
  have h : Ideal.ofBits FTy.f32 0xFF800000#32 = ⊥ := by simp [Ideal.ofBits, Ideal.ieee]
  rw [h, max_eq_right bot_le]
  rfl

/-- The reference's prediction, from the two lists of the top-k. -/
theorem pred_of (I : IVec S64 32) (v : FVec Ideal S64 .f32) (σ : Fin 64 → Fin 4096)
    (h1 : Host.topK S64 0 (FloatOps.cmpfTotal .gt) (scores m c) sliceFits_S4096_S64 = (v, I))
    (hI : ∀ j, I (ix1 j) = BitVec.ofNat 32 (σ j).val) :
    (res_main_v27 m c : Model.Arr1 1) (ix1 0) = Model.prediction (m (c.tc.loc main_arg0)) (fun j => v (ix1 j)) σ
      (m (c.tc.loc main_arg3)) (m (c.tc.loc main_arg9)) (m (c.tc.loc main_arg10) (ix1 0)) := by
  have hg : ∀ (i : Fin 64) (d : Fin 1024), Host.gather gather_S4096x1024_S64x1_S64x1024_1_0_n_n_0_1_11024
      (shapeCast S4096x1024 (m ((c.tc : Thread nD τ).loc main_arg3)) shapeCasts_S4096x1x1024_S4096x1024)
      (broadcastInDim S64x1 ![0] bcast_S64_S64x1_0
        (select (cmpi CmpIPredicate.slt I (broadcastInDim S64 ![] bcast_S_S64 (constantI S_ 32 0#32)))
          (addi I (broadcastInDim S64 ![] bcast_S_S64 (constantI S_ 32 4096#32))) I)) (ix2 i d)
      = (m (c.tc.loc main_arg3) : Model.Hidden) (ix3 (σ i) 0 d) := fun i d => by
    refine (Idealize.ShloMosaic.Routing.gather_row _ rfl rfl rfl rfl rfl _ _ i d (σ i) ?_ (by decide)).trans ?_
    · pointwise
      rw [hI]
      exact (row_word (σ i)).1
    · pointwise
  unfold res_main_v27
  rw [h1]
  pointwise
  simp only [hI, (row_word _).1, (row_word _).2.1, (row_word _).2.2, hg, top_eq]
  refine congrArg₂ (· + ·) (congrArg₂ (· + ·) (Finset.sum_congr rfl fun _ _ => mul_comm _ _)
    (Finset.sum_congr rfl fun d _ => (mul_comm _ _).trans (congrArg _ ?_))) rfl
  exact Finset.sum_congr rfl fun i _ => congrArg (Model.weight (fun j => v (ix1 j)) i * ·) rfl

/-- The scores the model ranks. -/
abbrev keysScore (p : Fin 4096) : EReal := Model.score (m (c.tc.loc main_arg0)) (m (c.tc.loc main_arg2)) p

/-- The reference's prediction is the model's at the positions listed first. -/
theorem pred_eq : (res_main_v27 m c : Model.Arr1 1) (ix1 0) = Model.prediction (m (c.tc.loc main_arg0))
    (fun j => keysScore m c (listed (keysScore m c) ⟨j.val, by omega⟩)) (fun j => listed (keysScore m c) ⟨j.val, by omega⟩)
    (m (c.tc.loc main_arg3)) (m (c.tc.loc main_arg9)) (m (c.tc.loc main_arg10) (ix1 0)) := by
  have e : (fun p => scores m c (ix1 p)) = keysScore m c := funext fun p => scores_apply m c p
  have h := topK_both (scores m c)
  rw [e] at h
  refine (pred_of m c _ _ _ rfl fun j => (h j).2).trans ?_
  refine congrArg (fun v => Model.prediction _ v _ _ _ _) (funext fun j => (h j).1.trans (scores_apply m c _))

end Cert.ReferenceIdeal.Hand

end
-- ==== Proof.Finite.lean ====
/-
  What the precondition gives: every entry of the query and of the keys is a real number, so every score is, and none is `⊥`.
-/
module

public import proofs.«01_k».proof.Defs
public import proofs.«01_k».proof.Proof.Gen.Pre_finite_queries
public import proofs.«01_k».proof.Proof.Model

@[expose] public section

noncomputable section

namespace Cert.Model

open Idealize.ShloMosaic Idealize.ShloMosaic.TcCoe

/-- An extended real whose magnitude tests below infinity is real. -/
theorem real_of_test (x : EReal) (h : BitVec.ofBool (decide (max x (-x) < Ideal.ofBits .f32 0x7F800000#32)) = 1#1) : ∃ r : ℝ, x = r := by
  have hi : Ideal.ofBits FTy.f32 0x7F800000#32 = ⊤ := by simp [Ideal.ofBits, Ideal.ieee]
  rw [hi] at h
  induction x with
  | bot => simp at h
  | top => simp at h
  | coe r => exact ⟨r, rfl⟩

/-- The scores of real queries and keys are real. -/
theorem score_ne_bot (q : Arr1 2048) (keys : Arr2 4096 2048) (hq : ∀ k, ∃ r : ℝ, q (ix1 k) = r) (hk : ∀ p k, ∃ r : ℝ, keys (ix2 p k) = r)
    (p : Fin 4096) : score q keys p ≠ ⊥ := by
  have h : ∃ r : ℝ, score q keys p = r := by
    refine Finset.sum_induction _ (fun x : EReal => ∃ r : ℝ, x = r) ?_ ⟨0, rfl⟩ fun k _ => ?_
    · rintro _ _ ⟨a, rfl⟩ ⟨b, rfl⟩
      exact ⟨a + b, (EReal.coe_add a b).symm⟩
    · obtain ⟨a, ha⟩ := hq k
      obtain ⟨b, hb⟩ := hk p k
      exact ⟨a * b, by rw [ha, hb, EReal.coe_mul]⟩
  obtain ⟨r, hr⟩ := h
  rw [hr]
  exact EReal.coe_ne_bot r

/-- Under the precondition no score of the kernel's arguments is `⊥`. -/
theorem score_ne_bot_of_pre (m : (ℓ : Loc Cert.KernelIdeal.nD Cert.KernelIdeal.τ Cert.KernelIdeal.sig) → Buf (Elt Ideal) ℓ)
    (hm : Cert.Pre_KernelIdeal_finite_queries m) (c : Dev Cert.KernelIdeal.nD) (p : Fin 4096) :
    score (m (c.tc.loc Cert.KernelIdeal.main_arg0)) (m (c.tc.loc Cert.KernelIdeal.main_arg2)) p ≠ ⊥ :=
  score_ne_bot _ _ (fun k => real_of_test _ (congrFun (hm c).1 (ix1 k))) (fun p k => real_of_test _ (congrFun (hm c).2 (ix2 p k))) p

end Cert.Model

end
-- ==== Proof.lean ====
/-
  The claim: the kernel over the extended reals ends with every semaphore at zero and its arguments as launched, the reference
  likewise, and both end with the same prediction and the same new hidden state whenever query and keys are finite.
-/
module

public import proofs.«01_k».proof.Defs
public import proofs.«01_k».proof.Proof.Gen.ReferenceIdeal.Run
public import proofs.«01_k».proof.Proof.Gen.Pre_finite_queries
public import proofs.«01_k».proof.Proof.Run
public import proofs.«01_k».proof.Proof.Search
public import proofs.«01_k».proof.Proof.Step
public import proofs.«01_k».proof.Proof.Pred
public import proofs.«01_k».proof.Proof.RefRead
public import proofs.«01_k».proof.Proof.Finite

@[expose] public section

noncomputable section

namespace Cert.Proof

open Idealize.ShloMosaic Idealize.ShloMosaic.TcCoe Idealize.SL.Sem

/-- The kernel ends quiet, its arguments as launched: every picked position is a row. -/
theorem frame_kernel : Cert.quiescent_KernelIdeal := fun m ρ _ =>
  (θ_run Cert.KernelIdeal.defs _ _).mono (fun _ h => ⟨fun c => (h.1 c).2, h.2⟩)
    (Cert.KernelIdeal.Hand.run_main m ρ fun c n _ => Cert.KernelIdeal.Hand.pick_lt m c n)

/-- The reference ends quiet, its arguments as launched: it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The prediction the kernel leaves. -/
abbrev prediction : Model.Arr1 1 :=
  shapeCast Cert.KernelIdeal.S1 (fun _ => Cert.KernelIdeal.Hand.pred m c ⟨12, by decide⟩ : Vec Ideal Cert.KernelIdeal.S1x1 .f32)
    Cert.KernelIdeal.Facts₀.shapeCasts_S1x1_S1

/-- The new hidden state the kernel leaves. -/
abbrev newState : Model.Arr3 1 1 1024 :=
  shapeCast Cert.KernelIdeal.S1x1x1024 (Cert.KernelIdeal.Hand.hNew m c) Cert.KernelIdeal.Facts₀.shapeCasts_S1x1024_S1x1x1024

/-- The reference's prediction is the kernel's. -/
theorem prediction_eq (hm : Cert.Pre_KernelIdeal_finite_queries m)
    (e0 : (m' (c.tc.loc Cert.ReferenceIdeal.main_arg0) : Model.Arr1 2048) = m (c.tc.loc Cert.KernelIdeal.main_arg0))
    (e2 : (m' (c.tc.loc Cert.ReferenceIdeal.main_arg2) : Model.Arr2 4096 2048) = m (c.tc.loc Cert.KernelIdeal.main_arg2))
    (e3 : (m' (c.tc.loc Cert.ReferenceIdeal.main_arg3) : Model.Hidden) = m (c.tc.loc Cert.KernelIdeal.main_arg3))
    (e9 : (m' (c.tc.loc Cert.ReferenceIdeal.main_arg9) : Model.Arr2 1 3072) = m (c.tc.loc Cert.KernelIdeal.main_arg9))
    (e10 : (m' (c.tc.loc Cert.ReferenceIdeal.main_arg10) : Model.Arr1 1) = m (c.tc.loc Cert.KernelIdeal.main_arg10)) :
    (Cert.ReferenceIdeal.Value.res_main_v27 m' c : Model.Arr1 1) = prediction m c := by
  funext y
  obtain rfl : y = ix1 0 := by
    funext a
    match a with
    | ⟨0, _⟩ => exact Subsingleton.elim (α := Fin 1) _ _
  have hs : Cert.KernelIdeal.Hand.flat (Cert.KernelIdeal.Hand.alpha m c) = Cert.ReferenceIdeal.Hand.keysScore m' c := by
    funext p
    rw [Cert.KernelIdeal.Hand.flat_alpha, Cert.ReferenceIdeal.Hand.keysScore, e0, e2]
  have hr : Cert.TopK.Ranked (Cert.KernelIdeal.Hand.flat (Cert.KernelIdeal.Hand.alpha m c))
      (Cert.ReferenceIdeal.Hand.listed (Cert.ReferenceIdeal.Hand.keysScore m' c)) := by
    rw [hs]
    exact Cert.TopK.ranked_sortedFrom _
  have hb : ∀ p, Cert.KernelIdeal.Hand.flat (Cert.KernelIdeal.Hand.alpha m c) p ≠ ⊥ := fun p => by
    rw [Cert.KernelIdeal.Hand.flat_alpha]
    exact Model.score_ne_bot_of_pre m hm c p
  have hk : prediction m c (ix1 0) = Cert.KernelIdeal.Hand.pred m c ⟨12, by decide⟩ := rfl
  rw [hk, Cert.KernelIdeal.Hand.pred_apply m c ⟨12, by decide⟩ hr hb, ← e0, ← e2, ← e3, ← e9, ← e10]
  exact Cert.ReferenceIdeal.Hand.pred_eq m' c

/-- The reference's new hidden state is the kernel's. -/
theorem newState_eq
    (e0 : (m' (c.tc.loc Cert.ReferenceIdeal.main_arg0) : Model.Arr1 2048) = m (c.tc.loc Cert.KernelIdeal.main_arg0))
    (e1 : (m' (c.tc.loc Cert.ReferenceIdeal.main_arg1) : Model.Arr1 1) = m (c.tc.loc Cert.KernelIdeal.main_arg1))
    (e3 : (m' (c.tc.loc Cert.ReferenceIdeal.main_arg3) : Model.Hidden) = m (c.tc.loc Cert.KernelIdeal.main_arg3))
    (e5 : (m' (c.tc.loc Cert.ReferenceIdeal.main_arg5) : Model.Arr2 3072 4096) = m (c.tc.loc Cert.KernelIdeal.main_arg5))
    (e6 : (m' (c.tc.loc Cert.ReferenceIdeal.main_arg6) : Model.Arr2 3072 1024) = m (c.tc.loc Cert.KernelIdeal.main_arg6))
    (e7 : (m' (c.tc.loc Cert.ReferenceIdeal.main_arg7) : Model.Arr1 3072) = m (c.tc.loc Cert.KernelIdeal.main_arg7))
    (e8 : (m' (c.tc.loc Cert.ReferenceIdeal.main_arg8) : Model.Arr1 3072) = m (c.tc.loc Cert.KernelIdeal.main_arg8)) :
    (Cert.ReferenceIdeal.Value.res_main_v71 m' c : Model.Arr3 1 1 1024) = newState m c := by
  funext y
  obtain ⟨j, rfl⟩ : ∃ j : Fin 1024, y = ix3 0 0 j := ⟨y 2, by
    funext a
    match a with
    | ⟨0, _⟩ => exact Subsingleton.elim (α := Fin 1) _ _
    | ⟨1, _⟩ => exact Subsingleton.elim (α := Fin 1) _ _
    | ⟨2, _⟩ => rfl⟩
  have hk : newState m c (ix3 0 0 j) = Cert.KernelIdeal.Hand.hNew m c (ix2 0 j) := by
    unfold newState
    pointwise
  rw [hk, Cert.KernelIdeal.Hand.hNew_apply, Cert.ReferenceIdeal.Hand.newState_eq, e0, e1, e3, e5, e6, e7, e8]

end Values

/-- Kernel and reference leave the same two results. -/
theorem values : Cert.algebraic_KernelIdeal_ReferenceIdeal_pre_finite_queries := by
  intro m g m' g' hm e
  refine ⟨fun c => prediction m c, fun c => newState m c,
    (θ_run Cert.KernelIdeal.defs _ _).mono (fun _ h c => ⟨(h.1 c).1.1, (h.1 c).1.2, (h.1 c).2⟩)
      (Cert.KernelIdeal.Hand.run_main m g fun c n _ => Cert.KernelIdeal.Hand.pick_lt m c n),
    (θ_run Cert.ReferenceIdeal.defs _ _).mono (fun _ h c => ?_) (Cert.ReferenceIdeal.Value.run m' g')⟩
  obtain ⟨e0, e1, e2, e3, -, e5, e6, e7, e8, e9, e10⟩ := e c
  exact ⟨(h c).1.trans (prediction_eq m m' c hm e0 e2 e3 e9 e10), (h c).2.1.trans (newState_eq m m' c e0 e1 e3 e5 e6 e7 e8), (h c).2.2⟩

theorem claim : Cert.Claim :=
  ⟨Cert.KernelIdeal.Gen.facts, Cert.ReferenceIdeal.Gen.facts, Cert.Pre_finite_queries.Gen.facts, frame_kernel,
    fun m ρ _ => frame_kernel m ρ trivial, frame_reference, fun m ρ _ => frame_reference m ρ trivial, values⟩

end Cert.Proof

end
